-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_normal [hPre_scales_normal : Cert.Pre_scales_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_normal [hPre_scales_normal : Cert.Pre_scales_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_normal [hKernelIdeal : Cert.KernelIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_normal [hReferenceIdeal : Cert.ReferenceIdeal.Facts] [hPre_scales_normal : Cert.Pre_scales_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S80x128 Cert.KernelIdeal.S40x128
  ∧ IdealRules.bf16_pair.Statement Cert.KernelIdeal.S2x128 Cert.KernelIdeal.S1x128

def algebraic_KernelIdeal_ReferenceIdeal_pre_scales_normal [hKernelIdeal : Cert.KernelIdeal.Facts] [hReferenceIdeal : Cert.ReferenceIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_normal : Cert.Pre_scales_normal.Facts),
    quiescent_Kernel (hKernel := hKernel)
    ∧ quiescent_KernelIdeal (hKernelIdeal := hKernelIdeal)
    ∧ quiescent_KernelIdeal_pre_scales_normal (hKernelIdeal := hKernelIdeal) (hPre_scales_normal := hPre_scales_normal)
    ∧ quiescent_ReferenceIdeal (hReferenceIdeal := hReferenceIdeal)
    ∧ quiescent_ReferenceIdeal_pre_scales_normal (hReferenceIdeal := hReferenceIdeal) (hPre_scales_normal := hPre_scales_normal)
    ∧ preserves_Kernel_KernelIdeal
    ∧ algebraic_KernelIdeal_ReferenceIdeal_pre_scales_normal (hKernelIdeal := hKernelIdeal) (hReferenceIdeal := hReferenceIdeal) (hPre_scales_normal := hPre_scales_normal)
-- ==== Pre_scales_normal.lean ====
abbrev S2x96x160x320 : Shape := ⟨4, ![2, 96, 160, 320]⟩
abbrev S2x96x160x10 : Shape := ⟨4, ![2, 96, 160, 10]⟩
abbrev S3x3x320x640 : Shape := ⟨4, ![3, 3, 320, 640]⟩
abbrev S3x3x10x640 : Shape := ⟨4, ![3, 3, 10, 640]⟩
abbrev S640 : Shape := ⟨1, ![640]⟩
abbrev S_ : Shape := ⟨0, ![]⟩

class Facts : Prop where
  bcast_S_S2x96x160x10 : S_.BroadcastsInDim S2x96x160x10 (![] : Fin 0 → Fin S2x96x160x10.rank)
  reducesTo_S2x96x160x10_S_d0_1_2_3 : S2x96x160x10.ReducesTo [0, 1, 2, 3] S_
  h_S_ : 0 < S_.numel
  bcast_S_S3x3x10x640 : S_.BroadcastsInDim S3x3x10x640 (![] : Fin 0 → Fin S3x3x10x640.rank)
  reducesTo_S3x3x10x640_S_d0_1_2_3 : S3x3x10x640.ReducesTo [0, 1, 2, 3] S_

variable [Facts]

def fn {F : FTy → Type} [FloatOps F] (main_arg0 : IVec S2x96x160x320 8) (main_arg1 : IVec S2x96x160x10 8) (main_arg2 : FVec F S3x3x320x640 .fp8e4m3) (main_arg3 : IVec S3x3x10x640 8) (main_arg4 : FVec F S640 .f32) : IVec S_ 1 :=
  let main_c : IVec S_ 8 := constantI S_ 8 0#8
  let main_v0 : IVec S2x96x160x10 8 := broadcastInDim S2x96x160x10 ![] bcast_S_S2x96x160x10 main_c
  let main_v1 : IVec S2x96x160x10 1 := cmpi .ne main_arg1 main_v0
  let main_c_0 : IVec S_ 1 := constantI S_ 1 1#1
  let main_v2 : IVec S_ 1 := (fun x v => Host.reduce IntOp.andi x v reducesTo_S2x96x160x10_S_d0_1_2_3 h_S_) main_v1 main_c_0
  let main_c_1 : IVec S_ 8 := constantI S_ 8 255#8
  let main_v3 : IVec S2x96x160x10 8 := broadcastInDim S2x96x160x10 ![] bcast_S_S2x96x160x10 main_c_1
  let main_v4 : IVec S2x96x160x10 1 := cmpi .ne main_arg1 main_v3
  let main_c_2 : IVec S_ 1 := constantI S_ 1 1#1
  let main_v5 : IVec S_ 1 := (fun x v => Host.reduce IntOp.andi x v reducesTo_S2x96x160x10_S_d0_1_2_3 h_S_) main_v4 main_c_2
  let main_v6 : IVec S_ 1 := andi main_v2 main_v5
  let main_c_3 : IVec S_ 8 := constantI S_ 8 0#8
  let main_v7 : IVec S3x3x10x640 8 := broadcastInDim S3x3x10x640 ![] bcast_S_S3x3x10x640 main_c_3
  let main_v8 : IVec S3x3x10x640 1 := cmpi .ne main_arg3 main_v7
  let main_c_4 : IVec S_ 1 := constantI S_ 1 1#1
  let main_v9 : IVec S_ 1 := (fun x v => Host.reduce IntOp.andi x v reducesTo_S3x3x10x640_S_d0_1_2_3 h_S_) main_v8 main_c_4
  let main_v10 : IVec S_ 1 := andi main_v6 main_v9
  let main_c_5 : IVec S_ 8 := constantI S_ 8 255#8
  let main_v11 : IVec S3x3x10x640 8 := broadcastInDim S3x3x10x640 ![] bcast_S_S3x3x10x640 main_c_5
  let main_v12 : IVec S3x3x10x640 1 := cmpi .ne main_arg3 main_v11
  let main_c_6 : IVec S_ 1 := constantI S_ 1 1#1
  let main_v13 : IVec S_ 1 := (fun x v => Host.reduce IntOp.andi x v reducesTo_S3x3x10x640_S_d0_1_2_3 h_S_) main_v12 main_c_6
  let main_v14 : IVec S_ 1 := andi main_v10 main_v13
  main_v14
-- ==== Kernel.lean ====
abbrev S2x96x160x320 : Shape := ⟨4, ![2, 96, 160, 320]⟩
abbrev S2x96x160x10 : Shape := ⟨4, ![2, 96, 160, 10]⟩
abbrev S3x3x320x640 : Shape := ⟨4, ![3, 3, 320, 640]⟩
abbrev S3x3x10x640 : Shape := ⟨4, ![3, 3, 10, 640]⟩
abbrev S640 : Shape := ⟨1, ![640]⟩
abbrev S30720x320 : Shape := ⟨2, ![30720, 320]⟩
abbrev S30720x10 : Shape := ⟨2, ![30720, 10]⟩
abbrev S640x1 : Shape := ⟨2, ![640, 1]⟩
abbrev S7680x640 : Shape := ⟨2, ![7680, 640]⟩
abbrev S5120x320 : Shape := ⟨2, ![5120, 320]⟩
abbrev S5120x10 : Shape := ⟨2, ![5120, 10]⟩
abbrev S1280x640 : Shape := ⟨2, ![1280, 640]⟩
abbrev S4x1280x256 : Shape := ⟨3, ![4, 1280, 256]⟩
abbrev S4x1360x256 : Shape := ⟨3, ![4, 1360, 256]⟩
abbrev S12x640x256 : Shape := ⟨3, ![12, 640, 256]⟩
abbrev S1x1x320x640 : Shape := ⟨4, ![1, 1, 320, 640]⟩
abbrev S320x640 : Shape := ⟨2, ![320, 640]⟩
abbrev S1x1x10x640 : Shape := ⟨4, ![1, 1, 10, 640]⟩
abbrev S10x640 : Shape := ⟨2, ![10, 640]⟩
abbrev S32x640 : Shape := ⟨2, ![32, 640]⟩
abbrev S1x640 : Shape := ⟨2, ![1, 640]⟩
abbrev S256x640 : Shape := ⟨2, ![256, 640]⟩
abbrev S640x256 : Shape := ⟨2, ![640, 256]⟩
abbrev S1x640x256 : Shape := ⟨3, ![1, 640, 256]⟩
abbrev S64x640 : Shape := ⟨2, ![64, 640]⟩
abbrev S4x80x256 : Shape := ⟨3, ![4, 80, 256]⟩
abbrev S160x320 : Shape := ⟨2, ![160, 320]⟩
abbrev S40x320 : Shape := ⟨2, ![40, 320]⟩
abbrev S160x10 : Shape := ⟨2, ![160, 10]⟩
abbrev S40x10 : Shape := ⟨2, ![40, 10]⟩
abbrev S40x118 : Shape := ⟨2, ![40, 118]⟩
abbrev S40x128 : Shape := ⟨2, ![40, 128]⟩
abbrev S40x128x1 : Shape := ⟨3, ![40, 128, 1]⟩
abbrev S80x128 : Shape := ⟨2, ![80, 128]⟩
abbrev S160x128 : Shape := ⟨2, ![160, 128]⟩
abbrev S1x80x128 : Shape := ⟨3, ![1, 80, 128]⟩
abbrev S2x128 : Shape := ⟨2, ![2, 128]⟩
abbrev S1x128 : Shape := ⟨2, ![1, 128]⟩
abbrev S39x128 : Shape := ⟨2, ![39, 128]⟩
abbrev S40x64 : Shape := ⟨2, ![40, 64]⟩
abbrev S1x256x256 : Shape := ⟨3, ![1, 256, 256]⟩
abbrev S256x256 : Shape := ⟨2, ![256, 256]⟩

abbrev nBuf : Space → Nat
  | .hbm => 9
  | .vmem => 12
  | .smem => 0
  | _ => 0

abbrev bufTy : (tb : Table) → Fin (tcTables nBuf tb) → BufTy
  | .hbm, ⟨0, _⟩ => ⟨S2x96x160x320, .i8⟩
  | .hbm, ⟨1, _⟩ => ⟨S2x96x160x10, .i8⟩
  | .hbm, ⟨2, _⟩ => ⟨S3x3x320x640, .fp8e4m3⟩
  | .hbm, ⟨3, _⟩ => ⟨S3x3x10x640, .i8⟩
  | .hbm, ⟨4, _⟩ => ⟨S640, .f32⟩
  | .hbm, ⟨5, _⟩ => ⟨S30720x320, .i8⟩
  | .hbm, ⟨6, _⟩ => ⟨S30720x10, .i8⟩
  | .hbm, ⟨7, _⟩ => ⟨S640x1, .f32⟩
  | .hbm, ⟨8, _⟩ => ⟨S7680x640, .bf16⟩
  | .local _ .vmem, ⟨0, _⟩ => ⟨S5120x320, .i8⟩
  | .local _ .vmem, ⟨1, _⟩ => ⟨S5120x320, .i8⟩
  | .local _ .vmem, ⟨2, _⟩ => ⟨S5120x10, .i8⟩
  | .local _ .vmem, ⟨3, _⟩ => ⟨S5120x10, .i8⟩
  | .local _ .vmem, ⟨4, _⟩ => ⟨S3x3x320x640, .fp8e4m3⟩
  | .local _ .vmem, ⟨5, _⟩ => ⟨S3x3x10x640, .i8⟩
  | .local _ .vmem, ⟨6, _⟩ => ⟨S640x1, .f32⟩
  | .local _ .vmem, ⟨7, _⟩ => ⟨S1280x640, .bf16⟩
  | .local _ .vmem, ⟨8, _⟩ => ⟨S1280x640, .bf16⟩
  | .local _ .vmem, ⟨9, _⟩ => ⟨S4x1280x256, .bf16⟩
  | .local _ .vmem, ⟨10, _⟩ => ⟨S4x1360x256, .bf16⟩
  | .local _ .vmem, ⟨11, _⟩ => ⟨S12x640x256, .bf16⟩
  | _, _ => ⟨S2x96x160x320, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [BitOps F]

abbrev grid0 : Pipeline.Grid := ⟨1, ![6], ![false]⟩

@[reducible] def k0_t1_loop : Scf.Loop 32 :=
  let c0_i32_5 : BitVec 32 := 0#32
  let c16_i32 : BitVec 32 := 16#32
  let v10 : BitVec 32 := Scalar.addi c0_i32_5 c16_i32
  let c1_i32 : BitVec 32 := 1#32
  ⟨c0_i32_5, v10, c1_i32⟩
def k0_mult1 (k0_t1 : Fin k0_t1_loop.trips) : BitVec 32 :=
  let c0_i32_5 : BitVec 32 := 0#32
  let c1_i32 : BitVec 32 := 1#32
  let arg10 : BitVec 32 := Scf.iv c0_i32_5 c1_i32 k0_t1
  let c80_i32 : BitVec 32 := 80#32
  let v14 : BitVec 32 := Scalar.muli arg10 c80_i32
  let c0_i32_11 : BitVec 32 := 0#32
  let v15 : BitVec 32 := Scalar.addi v14 c0_i32_11
  v15
def k0_mult2 (k0_t1 : Fin k0_t1_loop.trips) : BitVec 32 :=
  let c2_i32 : BitVec 32 := 2#32
  let c0_i32_5 : BitVec 32 := 0#32
  let c1_i32 : BitVec 32 := 1#32
  let arg10 : BitVec 32 := Scf.iv c0_i32_5 c1_i32 k0_t1
  let v17 : BitVec 32 := Scalar.muli c2_i32 arg10
  let c0_i32_12 : BitVec 32 := 0#32
  let v18 : BitVec 32 := Scalar.addi v17 c0_i32_12
  let c4_i32 : BitVec 32 := 4#32
  let v19 : BitVec 32 := Scalar.muli v18 c4_i32
  let c40_i32 : BitVec 32 := 40#32
  let v20 : BitVec 32 := Scalar.muli v19 c40_i32
  v20
def k0_off1 (k0_t1 : Fin k0_t1_loop.trips) (c0_i32_12 : BitVec 32) : Fin 2 → Nat :=
  let c2_i32 : BitVec 32 := 2#32
  let c0_i32_5 : BitVec 32 := 0#32
  let c1_i32 : BitVec 32 := 1#32
  let arg10 : BitVec 32 := Scf.iv c0_i32_5 c1_i32 k0_t1
  let v17 : BitVec 32 := Scalar.muli c2_i32 arg10
  let v18 : BitVec 32 := Scalar.addi v17 c0_i32_12
  let c4_i32 : BitVec 32 := 4#32
  let v19 : BitVec 32 := Scalar.muli v18 c4_i32
  let c40_i32 : BitVec 32 := 40#32
  let v20 : BitVec 32 := Scalar.muli v19 c40_i32
  let v21 : BitVec 32 := v20
  let v22 : Index := Scalar.indexCast v21
  let c0_13 : Index := 0#32
  ![v22.toNat, 0]
def k0_off2 (k0_t1 : Fin k0_t1_loop.trips) (c0_i32_12 : BitVec 32) : Fin 2 → Nat :=
  let c2_i32 : BitVec 32 := 2#32
  let c0_i32_5 : BitVec 32 := 0#32
  let c1_i32 : BitVec 32 := 1#32
  let arg10 : BitVec 32 := Scf.iv c0_i32_5 c1_i32 k0_t1
  let v17 : BitVec 32 := Scalar.muli c2_i32 arg10
  let v18 : BitVec 32 := Scalar.addi v17 c0_i32_12
  let c4_i32 : BitVec 32 := 4#32
  let v19 : BitVec 32 := Scalar.muli v18 c4_i32
  let c40_i32 : BitVec 32 := 40#32
  let v20 : BitVec 32 := Scalar.muli v19 c40_i32
  let v21 : BitVec 32 := v20
  let v26 : Index := Scalar.indexCast v21
  let c0_14 : Index := 0#32
  ![v26.toNat, 0]
def k0_off3 (k0_t1 : Fin k0_t1_loop.trips) : Fin 3 → Nat :=
  let c0_27 : Index := 0#32
  let c0_i32_5 : BitVec 32 := 0#32
  let c1_i32 : BitVec 32 := 1#32
  let arg10 : BitVec 32 := Scf.iv c0_i32_5 c1_i32 k0_t1
  let c80_i32 : BitVec 32 := 80#32
  let v14 : BitVec 32 := Scalar.muli arg10 c80_i32
  let c0_i32_11 : BitVec 32 := 0#32
  let v15 : BitVec 32 := Scalar.addi v14 c0_i32_11
  let v16 : BitVec 32 := v15
  let v94 : Index := Scalar.indexCast v16
  let c0_28 : Index := 0#32
  ![0, v94.toNat, 0]
def k0_off4 (k0_t1 : Fin k0_t1_loop.trips) : Fin 3 → Nat :=
  let c1 : Index := 1#32
  let c0_i32_5 : BitVec 32 := 0#32
  let c1_i32 : BitVec 32 := 1#32
  let arg10 : BitVec 32 := Scf.iv c0_i32_5 c1_i32 k0_t1
  let c80_i32 : BitVec 32 := 80#32
  let v14 : BitVec 32 := Scalar.muli arg10 c80_i32
  let c0_i32_11 : BitVec 32 := 0#32
  let v15 : BitVec 32 := Scalar.addi v14 c0_i32_11
  let v16 : BitVec 32 := v15
  let v98 : Index := Scalar.indexCast v16
  let c0_29 : Index := 0#32
  ![1, v98.toNat, 0]
def k0_off5 (k0_t1 : Fin k0_t1_loop.trips) : Fin 3 → Nat :=
  let c2 : Index := 2#32
  let c0_i32_5 : BitVec 32 := 0#32
  let c1_i32 : BitVec 32 := 1#32
  let arg10 : BitVec 32 := Scf.iv c0_i32_5 c1_i32 k0_t1
  let c80_i32 : BitVec 32 := 80#32
  let v14 : BitVec 32 := Scalar.muli arg10 c80_i32
  let c0_i32_11 : BitVec 32 := 0#32
  let v15 : BitVec 32 := Scalar.addi v14 c0_i32_11
  let v16 : BitVec 32 := v15
  let v113 : Index := Scalar.indexCast v16
  let c0_32 : Index := 0#32
  ![2, v113.toNat, 0]
def k0_off6 (k0_t1 : Fin k0_t1_loop.trips) : Fin 3 → Nat :=
  let c0_51 : Index := 0#32
  let c0_i32_5 : BitVec 32 := 0#32
  let c1_i32 : BitVec 32 := 1#32
  let arg10 : BitVec 32 := Scf.iv c0_i32_5 c1_i32 k0_t1
  let c80_i32 : BitVec 32 := 80#32
  let v14 : BitVec 32 := Scalar.muli arg10 c80_i32
  let c0_i32_11 : BitVec 32 := 0#32
  let v15 : BitVec 32 := Scalar.addi v14 c0_i32_11
  let v16 : BitVec 32 := v15
  let v181 : Index := Scalar.indexCast v16
  let c128 : Index := 128#32
  ![0, v181.toNat, 128]
def k0_off7 (k0_t1 : Fin k0_t1_loop.trips) : Fin 3 → Nat :=
  let c1_52 : Index := 1#32
  let c0_i32_5 : BitVec 32 := 0#32
  let c1_i32 : BitVec 32 := 1#32
  let arg10 : BitVec 32 := Scf.iv c0_i32_5 c1_i32 k0_t1
  let c80_i32 : BitVec 32 := 80#32
  let v14 : BitVec 32 := Scalar.muli arg10 c80_i32
  let c0_i32_11 : BitVec 32 := 0#32
  let v15 : BitVec 32 := Scalar.addi v14 c0_i32_11
  let v16 : BitVec 32 := v15
  let v185 : Index := Scalar.indexCast v16
  let c128_53 : Index := 128#32
  ![1, v185.toNat, 128]
def k0_off8 (k0_t1 : Fin k0_t1_loop.trips) : Fin 3 → Nat :=
  let c2_57 : Index := 2#32
  let c0_i32_5 : BitVec 32 := 0#32
  let c1_i32 : BitVec 32 := 1#32
  let arg10 : BitVec 32 := Scf.iv c0_i32_5 c1_i32 k0_t1
  let c80_i32 : BitVec 32 := 80#32
  let v14 : BitVec 32 := Scalar.muli arg10 c80_i32
  let c0_i32_11 : BitVec 32 := 0#32
  let v15 : BitVec 32 := Scalar.addi v14 c0_i32_11
  let v16 : BitVec 32 := v15
  let v200 : Index := Scalar.indexCast v16
  let c128_58 : Index := 128#32
  ![2, v200.toNat, 128]
def k0_off9 (k0_t1 : Fin k0_t1_loop.trips) : Fin 3 → Nat :=
  let c3 : Index := 3#32
  let c0_i32_5 : BitVec 32 := 0#32
  let c1_i32 : BitVec 32 := 1#32
  let arg10 : BitVec 32 := Scf.iv c0_i32_5 c1_i32 k0_t1
  let c80_i32 : BitVec 32 := 80#32
  let v14 : BitVec 32 := Scalar.muli arg10 c80_i32
  let c0_i32_11 : BitVec 32 := 0#32
  let v15 : BitVec 32 := Scalar.addi v14 c0_i32_11
  let v16 : BitVec 32 := v15
  let v278 : Index := Scalar.indexCast v16
  let c0_79 : Index := 0#32
  ![3, v278.toNat, 0]
def k0_off10 (k0_t1 : Fin k0_t1_loop.trips) : Fin 3 → Nat :=
  let c3_86 : Index := 3#32
  let c0_i32_5 : BitVec 32 := 0#32
  let c1_i32 : BitVec 32 := 1#32
  let arg10 : BitVec 32 := Scf.iv c0_i32_5 c1_i32 k0_t1
  let c80_i32 : BitVec 32 := 80#32
  let v14 : BitVec 32 := Scalar.muli arg10 c80_i32
  let c0_i32_11 : BitVec 32 := 0#32
  let v15 : BitVec 32 := Scalar.addi v14 c0_i32_11
  let v16 : BitVec 32 := v15
  let v302 : Index := Scalar.indexCast v16
  let c128_87 : Index := 128#32
  ![3, v302.toNat, 128]
def k0_mult3 (k0_t1 : Fin k0_t1_loop.trips) : BitVec 32 :=
  let c0_i32_5 : BitVec 32 := 0#32
  let c1_i32 : BitVec 32 := 1#32
  let arg10 : BitVec 32 := Scf.iv c0_i32_5 c1_i32 k0_t1
  let c80_i32_88 : BitVec 32 := 80#32
  let v306 : BitVec 32 := Scalar.muli arg10 c80_i32_88
  let c80_i32_89 : BitVec 32 := 80#32
  let v307 : BitVec 32 := Scalar.addi v306 c80_i32_89
  v307
def k0_mult4 (k0_t1 : Fin k0_t1_loop.trips) : BitVec 32 :=
  let c2_i32_90 : BitVec 32 := 2#32
  let c0_i32_5 : BitVec 32 := 0#32
  let c1_i32 : BitVec 32 := 1#32
  let arg10 : BitVec 32 := Scf.iv c0_i32_5 c1_i32 k0_t1
  let v309 : BitVec 32 := Scalar.muli c2_i32_90 arg10
  let c1_i32_91 : BitVec 32 := 1#32
  let v310 : BitVec 32 := Scalar.addi v309 c1_i32_91
  let c4_i32_92 : BitVec 32 := 4#32
  let v311 : BitVec 32 := Scalar.muli v310 c4_i32_92
  let c40_i32_93 : BitVec 32 := 40#32
  let v312 : BitVec 32 := Scalar.muli v311 c40_i32_93
  v312
def k0_off11 (k0_t1 : Fin k0_t1_loop.trips) : Fin 3 → Nat :=
  let c0_114 : Index := 0#32
  let c0_i32_5 : BitVec 32 := 0#32
  let c1_i32 : BitVec 32 := 1#32
  let arg10 : BitVec 32 := Scf.iv c0_i32_5 c1_i32 k0_t1
  let c80_i32_88 : BitVec 32 := 80#32
  let v306 : BitVec 32 := Scalar.muli arg10 c80_i32_88
  let c80_i32_89 : BitVec 32 := 80#32
  let v307 : BitVec 32 := Scalar.addi v306 c80_i32_89
  let v308 : BitVec 32 := v307
  let v386 : Index := Scalar.indexCast v308
  let c0_115 : Index := 0#32
  ![0, v386.toNat, 0]
def k0_off12 (k0_t1 : Fin k0_t1_loop.trips) : Fin 3 → Nat :=
  let c1_116 : Index := 1#32
  let c0_i32_5 : BitVec 32 := 0#32
  let c1_i32 : BitVec 32 := 1#32
  let arg10 : BitVec 32 := Scf.iv c0_i32_5 c1_i32 k0_t1
  let c80_i32_88 : BitVec 32 := 80#32
  let v306 : BitVec 32 := Scalar.muli arg10 c80_i32_88
  let c80_i32_89 : BitVec 32 := 80#32
  let v307 : BitVec 32 := Scalar.addi v306 c80_i32_89
  let v308 : BitVec 32 := v307
  let v390 : Index := Scalar.indexCast v308
  let c0_117 : Index := 0#32
  ![1, v390.toNat, 0]
def k0_off13 (k0_t1 : Fin k0_t1_loop.trips) : Fin 3 → Nat :=
  let c2_121 : Index := 2#32
  let c0_i32_5 : BitVec 32 := 0#32
  let c1_i32 : BitVec 32 := 1#32
  let arg10 : BitVec 32 := Scf.iv c0_i32_5 c1_i32 k0_t1
  let c80_i32_88 : BitVec 32 := 80#32
  let v306 : BitVec 32 := Scalar.muli arg10 c80_i32_88
  let c80_i32_89 : BitVec 32 := 80#32
  let v307 : BitVec 32 := Scalar.addi v306 c80_i32_89
  let v308 : BitVec 32 := v307
  let v405 : Index := Scalar.indexCast v308
  let c0_122 : Index := 0#32
  ![2, v405.toNat, 0]
def k0_off14 (k0_t1 : Fin k0_t1_loop.trips) : Fin 3 → Nat :=
  let c0_141 : Index := 0#32
  let c0_i32_5 : BitVec 32 := 0#32
  let c1_i32 : BitVec 32 := 1#32
  let arg10 : BitVec 32 := Scf.iv c0_i32_5 c1_i32 k0_t1
  let c80_i32_88 : BitVec 32 := 80#32
  let v306 : BitVec 32 := Scalar.muli arg10 c80_i32_88
  let c80_i32_89 : BitVec 32 := 80#32
  let v307 : BitVec 32 := Scalar.addi v306 c80_i32_89
  let v308 : BitVec 32 := v307
  let v473 : Index := Scalar.indexCast v308
  let c128_142 : Index := 128#32
  ![0, v473.toNat, 128]
def k0_off15 (k0_t1 : Fin k0_t1_loop.trips) : Fin 3 → Nat :=
  let c1_143 : Index := 1#32
  let c0_i32_5 : BitVec 32 := 0#32
  let c1_i32 : BitVec 32 := 1#32
  let arg10 : BitVec 32 := Scf.iv c0_i32_5 c1_i32 k0_t1
  let c80_i32_88 : BitVec 32 := 80#32
  let v306 : BitVec 32 := Scalar.muli arg10 c80_i32_88
  let c80_i32_89 : BitVec 32 := 80#32
  let v307 : BitVec 32 := Scalar.addi v306 c80_i32_89
  let v308 : BitVec 32 := v307
  let v477 : Index := Scalar.indexCast v308
  let c128_144 : Index := 128#32
  ![1, v477.toNat, 128]
def k0_off16 (k0_t1 : Fin k0_t1_loop.trips) : Fin 3 → Nat :=
  let c2_148 : Index := 2#32
  let c0_i32_5 : BitVec 32 := 0#32
  let c1_i32 : BitVec 32 := 1#32
  let arg10 : BitVec 32 := Scf.iv c0_i32_5 c1_i32 k0_t1
  let c80_i32_88 : BitVec 32 := 80#32
  let v306 : BitVec 32 := Scalar.muli arg10 c80_i32_88
  let c80_i32_89 : BitVec 32 := 80#32
  let v307 : BitVec 32 := Scalar.addi v306 c80_i32_89
  let v308 : BitVec 32 := v307
  let v492 : Index := Scalar.indexCast v308
  let c128_149 : Index := 128#32
  ![2, v492.toNat, 128]
def k0_off17 (k0_t1 : Fin k0_t1_loop.trips) : Fin 3 → Nat :=
  let c3_171 : Index := 3#32
  let c0_i32_5 : BitVec 32 := 0#32
  let c1_i32 : BitVec 32 := 1#32
  let arg10 : BitVec 32 := Scf.iv c0_i32_5 c1_i32 k0_t1
  let c80_i32_88 : BitVec 32 := 80#32
  let v306 : BitVec 32 := Scalar.muli arg10 c80_i32_88
  let c80_i32_89 : BitVec 32 := 80#32
  let v307 : BitVec 32 := Scalar.addi v306 c80_i32_89
  let v308 : BitVec 32 := v307
  let v570 : Index := Scalar.indexCast v308
  let c0_172 : Index := 0#32
  ![3, v570.toNat, 0]
def k0_off18 (k0_t1 : Fin k0_t1_loop.trips) : Fin 3 → Nat :=
  let c3_179 : Index := 3#32
  let c0_i32_5 : BitVec 32 := 0#32
  let c1_i32 : BitVec 32 := 1#32
  let arg10 : BitVec 32 := Scf.iv c0_i32_5 c1_i32 k0_t1
  let c80_i32_88 : BitVec 32 := 80#32
  let v306 : BitVec 32 := Scalar.muli arg10 c80_i32_88
  let c80_i32_89 : BitVec 32 := 80#32
  let v307 : BitVec 32 := Scalar.addi v306 c80_i32_89
  let v308 : BitVec 32 := v307
  let v594 : Index := Scalar.indexCast v308
  let c128_180 : Index := 128#32
  ![3, v594.toNat, 128]
@[reducible] def k0_t2_loop : Scf.Loop 32 :=
  let c0_i32_8 : BitVec 32 := 0#32
  let c5_i32 : BitVec 32 := 5#32
  let v13 : BitVec 32 := Scalar.addi c0_i32_8 c5_i32
  let c1_i32_9 : BitVec 32 := 1#32
  ⟨c0_i32_8, v13, c1_i32_9⟩
def k0_mult5 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  v14
def k0_mult6 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c0_i32_11 : BitVec 32 := 0#32
  let v16 : BitVec 32 := Scalar.addi v15 c0_i32_11
  v16
def k0_off19 (k0_t2 : Fin k0_t2_loop.trips) (c0_i32_11 : BitVec 32) : Fin 3 → Nat :=
  let c0_12 : Index := 0#32
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let v16 : BitVec 32 := Scalar.addi v15 c0_i32_11
  let v17 : BitVec 32 := v16
  let v18 : Index := Scalar.indexCast v17
  let c0_13 : Index := 0#32
  ![0, v18.toNat, 0]
def k0_mult7 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c0_i32_17 : BitVec 32 := 0#32
  let v24 : BitVec 32 := Scalar.addi v15 c0_i32_17
  v24
def k0_off20 (k0_t2 : Fin k0_t2_loop.trips) (c0_i32_17 : BitVec 32) : Fin 3 → Nat :=
  let c1 : Index := 1#32
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let v24 : BitVec 32 := Scalar.addi v15 c0_i32_17
  let v25 : BitVec 32 := v24
  let v26 : Index := Scalar.indexCast v25
  let c0_18 : Index := 0#32
  ![1, v26.toNat, 0]
def k0_mult8 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c0_i32_23 : BitVec 32 := 0#32
  let v33 : BitVec 32 := Scalar.addi v15 c0_i32_23
  v33
def k0_off21 (k0_t2 : Fin k0_t2_loop.trips) (c0_i32_23 : BitVec 32) : Fin 3 → Nat :=
  let c2 : Index := 2#32
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let v33 : BitVec 32 := Scalar.addi v15 c0_i32_23
  let v34 : BitVec 32 := v33
  let v35 : Index := Scalar.indexCast v34
  let c0_24 : Index := 0#32
  ![2, v35.toNat, 0]
def k0_mult9 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c0_i32_29 : BitVec 32 := 0#32
  let v42 : BitVec 32 := Scalar.addi v15 c0_i32_29
  v42
def k0_off22 (k0_t2 : Fin k0_t2_loop.trips) (c0_i32_29 : BitVec 32) : Fin 3 → Nat :=
  let c3 : Index := 3#32
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let v42 : BitVec 32 := Scalar.addi v15 c0_i32_29
  let v43 : BitVec 32 := v42
  let v44 : Index := Scalar.indexCast v43
  let c0_30 : Index := 0#32
  ![3, v44.toNat, 0]
def k0_mult10 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c0_i32_35 : BitVec 32 := 0#32
  let v51 : BitVec 32 := Scalar.addi v15 c0_i32_35
  v51
def k0_off23 (k0_t2 : Fin k0_t2_loop.trips) : Fin 3 → Nat :=
  let c0_36 : Index := 0#32
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c0_i32_35 : BitVec 32 := 0#32
  let v51 : BitVec 32 := Scalar.addi v15 c0_i32_35
  let v52 : BitVec 32 := v51
  let v53 : Index := Scalar.indexCast v52
  let c0_37 : Index := 0#32
  ![0, v53.toNat, 0]
def k0_mult11 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c0_i32_41 : BitVec 32 := 0#32
  let v60 : BitVec 32 := Scalar.addi v15 c0_i32_41
  v60
def k0_off24 (k0_t2 : Fin k0_t2_loop.trips) : Fin 3 → Nat :=
  let c1_42 : Index := 1#32
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c0_i32_41 : BitVec 32 := 0#32
  let v60 : BitVec 32 := Scalar.addi v15 c0_i32_41
  let v61 : BitVec 32 := v60
  let v62 : Index := Scalar.indexCast v61
  let c0_43 : Index := 0#32
  ![1, v62.toNat, 0]
def k0_mult12 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c0_i32_47 : BitVec 32 := 0#32
  let v69 : BitVec 32 := Scalar.addi v15 c0_i32_47
  v69
def k0_off25 (k0_t2 : Fin k0_t2_loop.trips) : Fin 3 → Nat :=
  let c2_48 : Index := 2#32
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c0_i32_47 : BitVec 32 := 0#32
  let v69 : BitVec 32 := Scalar.addi v15 c0_i32_47
  let v70 : BitVec 32 := v69
  let v71 : Index := Scalar.indexCast v70
  let c0_49 : Index := 0#32
  ![2, v71.toNat, 0]
def k0_mult13 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c0_i32_53 : BitVec 32 := 0#32
  let v78 : BitVec 32 := Scalar.addi v15 c0_i32_53
  v78
def k0_off26 (k0_t2 : Fin k0_t2_loop.trips) : Fin 3 → Nat :=
  let c3_54 : Index := 3#32
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c0_i32_53 : BitVec 32 := 0#32
  let v78 : BitVec 32 := Scalar.addi v15 c0_i32_53
  let v79 : BitVec 32 := v78
  let v80 : Index := Scalar.indexCast v79
  let c0_55 : Index := 0#32
  ![3, v80.toNat, 0]
def k0_mult14 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c80_i32 : BitVec 32 := 80#32
  let v87 : BitVec 32 := Scalar.addi v15 c80_i32
  v87
def k0_mult15 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c80_i32_64 : BitVec 32 := 80#32
  let v96 : BitVec 32 := Scalar.addi v15 c80_i32_64
  v96
def k0_mult16 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c80_i32_70 : BitVec 32 := 80#32
  let v105 : BitVec 32 := Scalar.addi v15 c80_i32_70
  v105
def k0_mult17 (k0_t2 : Fin k0_t2_loop.trips) : BitVec 32 :=
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let c80_i32_76 : BitVec 32 := 80#32
  let v114 : BitVec 32 := Scalar.addi v15 c80_i32_76
  v114
def k0_off27 (k0_t2 : Fin k0_t2_loop.trips) : Fin 2 → Nat :=
  let c0_i32_8 : BitVec 32 := 0#32
  let c1_i32_9 : BitVec 32 := 1#32
  let arg10 : BitVec 32 := Scf.iv c0_i32_8 c1_i32_9 k0_t2
  let c256_i32 : BitVec 32 := 256#32
  let v14 : BitVec 32 := Scalar.muli arg10 c256_i32
  let v15 : BitVec 32 := v14
  let v127 : Index := Scalar.indexCast v15
  let c0_82 : Index := 0#32
  ![v127.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x320 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x10 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x3x320x640 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x3x10x640 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S640x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1280x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S2x96x160x320 : Shape := ⟨4, ![2, 96, 160, 320]⟩
abbrev S2x96x160x10 : Shape := ⟨4, ![2, 96, 160, 10]⟩
abbrev S3x3x320x640 : Shape := ⟨4, ![3, 3, 320, 640]⟩
abbrev S3x3x10x640 : Shape := ⟨4, ![3, 3, 10, 640]⟩
abbrev S640 : Shape := ⟨1, ![640]⟩
abbrev S7680x640 : Shape := ⟨2, ![7680, 640]⟩
abbrev S2x96x160x10x32 : Shape := ⟨5, ![2, 96, 160, 10, 32]⟩
abbrev S2x96x160x10x1 : Shape := ⟨5, ![2, 96, 160, 10, 1]⟩
abbrev S3x3x10x32x640 : Shape := ⟨5, ![3, 3, 10, 32, 640]⟩
abbrev S3x3x10x1x640 : Shape := ⟨5, ![3, 3, 10, 1, 640]⟩
abbrev S2x1x160x320 : Shape := ⟨4, ![2, 1, 160, 320]⟩
abbrev S2x97x160x320 : Shape := ⟨4, ![2, 97, 160, 320]⟩
abbrev S2x98x160x320 : Shape := ⟨4, ![2, 98, 160, 320]⟩
abbrev S2x98x1x320 : Shape := ⟨4, ![2, 98, 1, 320]⟩
abbrev S2x98x161x320 : Shape := ⟨4, ![2, 98, 161, 320]⟩
abbrev S2x98x162x320 : Shape := ⟨4, ![2, 98, 162, 320]⟩
abbrev S2x49x2x81x2x320 : Shape := ⟨6, ![2, 49, 2, 81, 2, 320]⟩
abbrev S2x48x1x80x1x320 : Shape := ⟨6, ![2, 48, 1, 80, 1, 320]⟩
abbrev S2x48x80x320 : Shape := ⟨4, ![2, 48, 80, 320]⟩
abbrev S7680x320 : Shape := ⟨2, ![7680, 320]⟩
abbrev S1x1x320x640 : Shape := ⟨4, ![1, 1, 320, 640]⟩
abbrev S320x640 : Shape := ⟨2, ![320, 640]⟩
abbrev S1x640 : Shape := ⟨2, ![1, 640]⟩

abbrev nBuf : Space → Nat
  | .hbm => 6
  | .vmem => 6
  | .smem => 0
  | _ => 0

abbrev bufTy : (tb : Table) → Fin (tcTables nBuf tb) → BufTy
  | .hbm, ⟨0, _⟩ => ⟨S2x96x160x320, .i8⟩
  | .hbm, ⟨1, _⟩ => ⟨S2x96x160x10, .i8⟩
  | .hbm, ⟨2, _⟩ => ⟨S3x3x320x640, .fp8e4m3⟩
  | .hbm, ⟨3, _⟩ => ⟨S3x3x10x640, .i8⟩
  | .hbm, ⟨4, _⟩ => ⟨S640, .f32⟩
  | .hbm, ⟨5, _⟩ => ⟨S7680x640, .bf16⟩
  | .local _ .vmem, ⟨0, _⟩ => ⟨S2x96x160x320, .i8⟩
  | .local _ .vmem, ⟨1, _⟩ => ⟨S2x96x160x10, .i8⟩
  | .local _ .vmem, ⟨2, _⟩ => ⟨S3x3x320x640, .fp8e4m3⟩
  | .local _ .vmem, ⟨3, _⟩ => ⟨S3x3x10x640, .i8⟩
  | .local _ .vmem, ⟨4, _⟩ => ⟨S640, .f32⟩
  | .local _ .vmem, ⟨5, _⟩ => ⟨S7680x640, .bf16⟩
  | _, _ => ⟨S2x96x160x320, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x96x160x320 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x96x160x10 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x320x640 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x3x10x640 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7680x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.BitsFill.lean ====
/- The scratch that the first counted loop fills, whatever it held before: every row of `arg7`, and the rows of `arg8` below its first eighty,
   are written by the loop, and the first eighty rows of `arg8` before it. So what a point reads back from them depends on the inputs alone. -/
module

public import proofs.«01_k».proof.Proof.Gen.Kernel.Frame.Runs
public import Idealize.ShloMosaic.Lib.Pipeline.FrameBody

@[expose] public section

set_option maxRecDepth 16384

noncomputable section

namespace Cert.Kernel.Gen

open Idealize.ShloMosaic Idealize.ShloMosaic.TcCoe Idealize.ShloMosaic.Tactic
open Idealize.SL.Sem

variable {F : FTy → Type} [BitOps F]

/-- The first loop's pieces cover the even rows' scratch. -/
theorem cover7 (c : Dev nD) (i : grid0.Coords)
    (arg1 : Memref sig .tc .vmem S5120x320 .i8) (harg1 : arg1.IsWhole) (arg2 : Memref sig .tc .vmem S5120x10 .i8) (harg2 : arg2.IsWhole)
    (arg3 : Memref sig .tc .vmem S3x3x320x640 .fp8e4m3) (harg3 : arg3.IsWhole) (arg4 : Memref sig .tc .vmem S3x3x10x640 .i8) (harg4 : arg4.IsWhole)
    (arg5 : Memref sig .tc .vmem S640x1 .f32) (harg5 : arg5.IsWhole) (arg6 : Memref sig .tc .vmem S1280x640 .bf16) (harg6 : arg6.IsWhole)
    (arg7 : Memref sig .tc .vmem S4x1280x256 .bf16) (harg7 : arg7.IsWhole) (arg8 : Memref sig .tc .vmem S4x1360x256 .bf16) (harg8 : arg8.IsWhole)
    (arg9 : Memref sig .tc .vmem S12x640x256 .bf16) (harg9 : arg9.IsWhole)
    (X1 : BufTy.Contents (Elt F) arg1.view.ty) (X2 : BufTy.Contents (Elt F) arg2.view.ty) (y : S4x1280x256.Idx) :
    ∃ p ∈ (pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).1, y ∈ p.1.set :=
  View.cover_of_tiledBy (pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).1 ![1, 80, 128] (by sl_kernel_rfl) y

/-- … so its contents after the loop are the loop's, whatever was there. -/
theorem fill7 (c : Dev nD) (i : grid0.Coords)
    (arg1 : Memref sig .tc .vmem S5120x320 .i8) (harg1 : arg1.IsWhole) (arg2 : Memref sig .tc .vmem S5120x10 .i8) (harg2 : arg2.IsWhole)
    (arg3 : Memref sig .tc .vmem S3x3x320x640 .fp8e4m3) (harg3 : arg3.IsWhole) (arg4 : Memref sig .tc .vmem S3x3x10x640 .i8) (harg4 : arg4.IsWhole)
    (arg5 : Memref sig .tc .vmem S640x1 .f32) (harg5 : arg5.IsWhole) (arg6 : Memref sig .tc .vmem S1280x640 .bf16) (harg6 : arg6.IsWhole)
    (arg7 : Memref sig .tc .vmem S4x1280x256 .bf16) (harg7 : arg7.IsWhole) (arg8 : Memref sig .tc .vmem S4x1360x256 .bf16) (harg8 : arg8.IsWhole)
    (arg9 : Memref sig .tc .vmem S12x640x256 .bf16) (harg9 : arg9.IsWhole)
    (X1 : BufTy.Contents (Elt F) arg1.view.ty) (X2 : BufTy.Contents (Elt F) arg2.view.ty) (f : BufTy.Contents (Elt F) arg7.view.ty) :
    arg7.view.writes (Elt F) f (pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).1 = harg7.unread (View.canon (pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).1) :=
  harg7.eq_unread (View.read_writes_eq_canon arg7.view f _ (cover7 c i arg1 harg1 arg2 harg2 arg3 harg3 arg4 harg4 arg5 harg5 arg6 harg6 arg7 harg7 arg8 harg8 arg9 harg9 X1 X2))

/-- The first loop's pieces and a first store of eighty rows cover the odd rows' scratch. -/
theorem cover8 (c : Dev nD) (i : grid0.Coords)
    (arg1 : Memref sig .tc .vmem S5120x320 .i8) (harg1 : arg1.IsWhole) (arg2 : Memref sig .tc .vmem S5120x10 .i8) (harg2 : arg2.IsWhole)
    (arg3 : Memref sig .tc .vmem S3x3x320x640 .fp8e4m3) (harg3 : arg3.IsWhole) (arg4 : Memref sig .tc .vmem S3x3x10x640 .i8) (harg4 : arg4.IsWhole)
    (arg5 : Memref sig .tc .vmem S640x1 .f32) (harg5 : arg5.IsWhole) (arg6 : Memref sig .tc .vmem S1280x640 .bf16) (harg6 : arg6.IsWhole)
    (arg7 : Memref sig .tc .vmem S4x1280x256 .bf16) (harg7 : arg7.IsWhole) (arg8 : Memref sig .tc .vmem S4x1360x256 .bf16) (harg8 : arg8.IsWhole)
    (arg9 : Memref sig .tc .vmem S12x640x256 .bf16) (harg9 : arg9.IsWhole)
    (X1 : BufTy.Contents (Elt F) arg1.view.ty) (X2 : BufTy.Contents (Elt F) arg2.view.ty)
    (w : Vec F S4x80x256 .bf16) (y : S4x1360x256.Idx) :
    ∃ p ∈ ((pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).2 ++ [⟨Rect.unit ![0, 0, 0] S4x80x256.size inb_S4x1360x256_S4x80x256_0_0_0, w⟩]), y ∈ p.1.set :=
  View.cover_of_tiledBy ((pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).2 ++ [⟨Rect.unit ![0, 0, 0] S4x80x256.size inb_S4x1360x256_S4x80x256_0_0_0, w⟩]) ![1, 80, 128] (by sl_kernel_rfl) y

/-- … so its contents after the loop are the loop's and the first store's, whatever was there. -/
theorem fill8 (c : Dev nD) (i : grid0.Coords)
    (arg1 : Memref sig .tc .vmem S5120x320 .i8) (harg1 : arg1.IsWhole) (arg2 : Memref sig .tc .vmem S5120x10 .i8) (harg2 : arg2.IsWhole)
    (arg3 : Memref sig .tc .vmem S3x3x320x640 .fp8e4m3) (harg3 : arg3.IsWhole) (arg4 : Memref sig .tc .vmem S3x3x10x640 .i8) (harg4 : arg4.IsWhole)
    (arg5 : Memref sig .tc .vmem S640x1 .f32) (harg5 : arg5.IsWhole) (arg6 : Memref sig .tc .vmem S1280x640 .bf16) (harg6 : arg6.IsWhole)
    (arg7 : Memref sig .tc .vmem S4x1280x256 .bf16) (harg7 : arg7.IsWhole) (arg8 : Memref sig .tc .vmem S4x1360x256 .bf16) (harg8 : arg8.IsWhole)
    (arg9 : Memref sig .tc .vmem S12x640x256 .bf16) (harg9 : arg9.IsWhole)
    (X1 : BufTy.Contents (Elt F) arg1.view.ty) (X2 : BufTy.Contents (Elt F) arg2.view.ty)
    (w : Vec F S4x80x256 .bf16)
    (f : BufTy.Contents (Elt F) arg8.view.ty) :
    arg8.view.writes (Elt F) f ((pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).2 ++ [⟨Rect.unit ![0, 0, 0] S4x80x256.size inb_S4x1360x256_S4x80x256_0_0_0, w⟩])
      = harg8.unread (View.canon ((pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).2 ++ [⟨Rect.unit ![0, 0, 0] S4x80x256.size inb_S4x1360x256_S4x80x256_0_0_0, w⟩])) :=
  harg8.eq_unread (View.read_writes_eq_canon arg8.view f _ (cover8 c i arg1 harg1 arg2 harg2 arg3 harg3 arg4 harg4 arg5 harg5 arg6 harg6 arg7 harg7 arg8 harg8 arg9 harg9 X1 X2 w))

end Cert.Kernel.Gen

end
-- ==== Proof.BitsRunA.lean ====
/- The whole body run in case A of the frame, as the generated module states it, with the scratch contents rewritten after the run
   to what the stores leave whatever the scratch held before (BitsFill), so that the pieces found are of the inputs alone. -/
module

public import proofs.«01_k».proof.Proof.BitsFill

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) :
    Σ' (L5 : List (View.Piece (Elt F) S1280x640 .bf16)), Σ' (LS1 : List (View.Piece (Elt F) S4x1360x256 .bf16)), { LS2 : List (View.Piece (Elt F) S12x640x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_mx_conv i arg1 harg1 arg2 harg2 arg3 harg3 arg4 harg4 arg5 harg5 arg6 harg6 arg7 harg7 arg8 harg8 arg9 harg9) K } := by
  refine ⟨?_, ?_, ?_, fun E K => ?run⟩
  case run =>
    simp only [cc0_mx_conv_eq_skeleton]; unfold cc0_mx_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    rw [fill7]
    rw (occs := .pos [2]) [fill8]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    isplitl [HS1]; · iexists _; iexact HS1
    iexists _; iexact HS2

end Cert.Kernel.Gen

end
-- ==== Proof.BitsRunB.lean ====
/- The whole body run in case B of the frame, as the generated module states it, with the scratch contents rewritten after the run
   to what the stores leave whatever the scratch held before (BitsFill), so that the pieces found are of the inputs alone. -/
module

public import proofs.«01_k».proof.Proof.BitsRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 taken: points 1, 2, 4, 5), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : ¬cond0_1 i) (hc2 : cond0_2 i)
    (x0 : Vec F S5120x320 .i8) (x1 : Vec F S5120x10 .i8) (x2 : Vec F S3x3x320x640 .fp8e4m3) (x3 : Vec F S3x3x10x640 .i8) (x4 : Vec F S640x1 .f32) (xs1 : Vec F S4x1360x256 .bf16) (xs2 : Vec F S12x640x256 .bf16) :
    Σ' (L5 : List (View.Piece (Elt F) S1280x640 .bf16)), Σ' (LS1 : List (View.Piece (Elt F) S4x1360x256 .bf16)), { LS2 : List (View.Piece (Elt F) S12x640x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ f, arg8.view.loc (c : Thread nD τ) ↦[arg8.view.set]{fullShare} arg8.view.writes (Elt F) f LS1) ∗ owns (c : Thread nD τ) arg9 fullShare xs2) -∗ K ⟨⟩))
          ⊢ wp frame (wpE (defs₀ (F := F)) Variants.none c none) E (cc0_mx_conv i arg1 harg1 arg2 harg2 arg3 harg3 arg4 harg4 arg5 harg5 arg6 harg6 arg7 harg7 arg8 harg8 arg9 harg9) K } := by
  refine ⟨?_, ?_, [], fun E K => ?run⟩
  case run =>
    simp only [cc0_mx_conv_eq_skeleton]; unfold cc0_mx_conv_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs1; obtain rfl := harg9.eq_unread hfs2
    sl_exec (disch := first | sl_exact hc0 | sl_exact hc1 | sl_exact hc2)
    sl_step
    rw [fill7]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    isplitl [HS1]; · iexists _; iexact HS1
    iexists _; isplitr; · ipureintro; exact harg9.read_unread _
    iexact HS2

end Cert.Kernel.Gen

end
-- ==== Proof.BitsRunC.lean ====
/- The whole body run in case C of the frame, as the generated module states it, with the scratch contents rewritten after the run
   to what the stores leave whatever the scratch held before (BitsFill), so that the pieces found are of the inputs alone. -/
module

public import proofs.«01_k».proof.Proof.BitsRunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 not taken: points 3), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (xs2 : Vec F S12x640x256 .bf16) :
    Σ' (L5 : List (View.Piece (Elt F) S1280x640 .bf16)), Σ' (LS1 : List (View.Piece (Elt F) S4x1360x256 .bf16)), { LS2 : List (View.Piece (Elt F) S12x640x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ f, arg8.view.loc (c : Thread nD τ) ↦[arg8.view.set]{fullShare} arg8.view.writes (Elt F) f LS1) ∗ owns (c : Thread nD τ) arg9 fullShare xs2) -∗ K ⟨⟩))
          ⊢ wp frame (wpE (defs₀ (F := F)) Variants.none c none) E (cc0_mx_conv i arg1 harg1 arg2 harg2 arg3 harg3 arg4 harg4 arg5 harg5 arg6 harg6 arg7 harg7 arg8 harg8 arg9 harg9) K } := by
  refine ⟨?_, ?_, [], fun E K => ?run⟩
  case run =>
    simp only [cc0_mx_conv_eq_skeleton]; unfold cc0_mx_conv_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs2
    sl_exec (disch := first | sl_exact hc0 | sl_exact hc1 | sl_exact hc2)
    sl_step
    rw [fill7]
    rw (occs := .pos [2]) [fill8]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    isplitl [HS1]; · iexists _; iexact HS1
    iexists _; isplitr; · ipureintro; exact harg9.read_unread _
    iexact HS2

end Cert.Kernel.Gen

end
-- ==== Proof.BitsFrame.lean ====
/- The frame of `Kernel`, laid out as the library generates frames, over the run modules beside this one in place of generated ones:
   what the output block and the carried scratch (`arg8`, `arg9`) hold in each of the three cases (`out0_κ_W`, `sout0_κ_S`)
   and point by point (`outsAt0`), the proof data (`dats`), the obligation of the body, the run (`run_main`) and `frame`.
   The cases are of the body's conditionals: A the first point, B a point that is not an image's first, C the second image's first point. -/
module

public import proofs.«01_k».proof.Proof.BitsRunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (5 stores of `S256x640`, checked by the kernel's evaluation: Lib/Ring.lean `Piece.tiledL`, linear in the pieces, through a loop's `@[irreducible]` trip theorem too), so they cover it. -/
theorem cover0_A_5 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (y : S1280x640.Idx) :
    ∃ pc ∈ (kernelRun0_A c i arg1 harg1 arg2 harg2 arg3 harg3 arg4 harg4 arg5 harg5 arg6 harg6 arg7 harg7 arg8 harg8 arg9 harg9 hc0 hc1 hc2 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 hc1 hc2 x0 x1 x2 x3 x4).1 S256x640.size (by sl_kernel_rfl) y

/-- What case A leaves in output 5's staging buffer: its pieces read back over junk. -/
def out0_A_5 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) : Vec F S1280x640 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 hc2 x0 x1 x2 x3 x4).1)

/-- Case A's pieces for scratch `arg8`, which the kernel carries between points, cover it: 129 pieces (stores and landed copies) of several sizes (`S1x80x128`, `S4x80x256`) tiling it when cut into blocks of `![1, 80, 128]` (Lib/Ring.lean `Piece.tiledBy`). -/
theorem scover0_A_1 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (y : S4x1360x256.Idx) :
    ∃ pc ∈ (kernelRun0_A c i arg1 harg1 arg2 harg2 arg3 harg3 arg4 harg4 arg5 harg5 arg6 harg6 arg7 harg7 arg8 harg8 arg9 harg9 hc0 hc1 hc2 x0 x1 x2 x3 x4).2.1, y ∈ pc.1.set :=
  View.cover_of_tiledBy (kernelRun0_A c i arg1 harg1 arg2 harg2 arg3 harg3 arg4 harg4 arg5 harg5 arg6 harg6 arg7 harg7 arg8 harg8 arg9 harg9 hc0 hc1 hc2 x0 x1 x2 x3 x4).2.1 ![1, 80, 128] (by sl_kernel_rfl) y

/-- What case A leaves in scratch `arg8`: its pieces read back over junk. -/
def sout0_A_1 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) : Vec F S4x1360x256 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 hc2 x0 x1 x2 x3 x4).2.1)

/-- Case A's pieces for scratch `arg9`, which the kernel carries between points, cover it: 12 pieces of `S1x640x256` tiling it (Lib/Ring.lean `Piece.tiledL`). -/
theorem scover0_A_2 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (y : S12x640x256.Idx) :
    ∃ pc ∈ (kernelRun0_A c i arg1 harg1 arg2 harg2 arg3 harg3 arg4 harg4 arg5 harg5 arg6 harg6 arg7 harg7 arg8 harg8 arg9 harg9 hc0 hc1 hc2 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 x0 x1 x2 x3 x4).2.2.1 S1x640x256.size (by sl_kernel_rfl) y

/-- What case A leaves in scratch `arg9`: its pieces read back over junk. -/
def sout0_A_2 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) : Vec F S12x640x256 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 hc0 hc1 hc2 x0 x1 x2 x3 x4).2.2.1)

/-- Case B's pieces for output 5 tile its block (5 stores of `S256x640`, checked by the kernel's evaluation: Lib/Ring.lean `Piece.tiledL`, linear in the pieces, through a loop's `@[irreducible]` trip theorem too), so they cover it. -/
theorem cover0_B_5 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : ¬cond0_1 i) (hc2 : cond0_2 i)
    (x0 : Vec F S5120x320 .i8) (x1 : Vec F S5120x10 .i8) (x2 : Vec F S3x3x320x640 .fp8e4m3) (x3 : Vec F S3x3x10x640 .i8) (x4 : Vec F S640x1 .f32) (xs1 : Vec F S4x1360x256 .bf16) (xs2 : Vec F S12x640x256 .bf16) (y : S1280x640.Idx) :
    ∃ pc ∈ (kernelRun0_B c i arg1 harg1 arg2 harg2 arg3 harg3 arg4 harg4 arg5 harg5 arg6 harg6 arg7 harg7 arg8 harg8 arg9 harg9 hc0 hc1 hc2 x0 x1 x2 x3 x4 xs1 xs2).1, y ∈ pc.1.set :=
  View.cover_of_tiledL (kernelRun0_B c i arg1 harg1 arg2 harg2 arg3 harg3 arg4 harg4 arg5 harg5 arg6 harg6 arg7 harg7 arg8 harg8 arg9 harg9 hc0 hc1 hc2 x0 x1 x2 x3 x4 xs1 xs2).1 S256x640.size (by sl_kernel_rfl) y

/-- What case B leaves in output 5's staging buffer: its pieces read back over junk. -/
def out0_B_5 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : ¬cond0_1 i) (hc2 : cond0_2 i)
    (x0 : Vec F S5120x320 .i8) (x1 : Vec F S5120x10 .i8) (x2 : Vec F S3x3x320x640 .fp8e4m3) (x3 : Vec F S3x3x10x640 .i8) (x4 : Vec F S640x1 .f32) (xs1 : Vec F S4x1360x256 .bf16) (xs2 : Vec F S12x640x256 .bf16) : Vec F S1280x640 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 hc2 x0 x1 x2 x3 x4 xs1 xs2).1)

/-- Case B's pieces for scratch `arg8`, which the kernel carries between points, cover it: 129 pieces (stores and landed copies) of several sizes (`S1x80x128`, `S4x80x256`) tiling it when cut into blocks of `![1, 80, 128]` (Lib/Ring.lean `Piece.tiledBy`). -/
theorem scover0_B_1 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : ¬cond0_1 i) (hc2 : cond0_2 i)
    (x0 : Vec F S5120x320 .i8) (x1 : Vec F S5120x10 .i8) (x2 : Vec F S3x3x320x640 .fp8e4m3) (x3 : Vec F S3x3x10x640 .i8) (x4 : Vec F S640x1 .f32) (xs1 : Vec F S4x1360x256 .bf16) (xs2 : Vec F S12x640x256 .bf16) (y : S4x1360x256.Idx) :
    ∃ pc ∈ (kernelRun0_B c i arg1 harg1 arg2 harg2 arg3 harg3 arg4 harg4 arg5 harg5 arg6 harg6 arg7 harg7 arg8 harg8 arg9 harg9 hc0 hc1 hc2 x0 x1 x2 x3 x4 xs1 xs2).2.1, y ∈ pc.1.set :=
  View.cover_of_tiledBy (kernelRun0_B c i arg1 harg1 arg2 harg2 arg3 harg3 arg4 harg4 arg5 harg5 arg6 harg6 arg7 harg7 arg8 harg8 arg9 harg9 hc0 hc1 hc2 x0 x1 x2 x3 x4 xs1 xs2).2.1 ![1, 80, 128] (by sl_kernel_rfl) y

/-- What case B leaves in scratch `arg8`: its pieces read back over junk. -/
def sout0_B_1 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : ¬cond0_1 i) (hc2 : cond0_2 i)
    (x0 : Vec F S5120x320 .i8) (x1 : Vec F S5120x10 .i8) (x2 : Vec F S3x3x320x640 .fp8e4m3) (x3 : Vec F S3x3x10x640 .i8) (x4 : Vec F S640x1 .f32) (xs1 : Vec F S4x1360x256 .bf16) (xs2 : Vec F S12x640x256 .bf16) : Vec F S4x1360x256 .bf16 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 hc2 x0 x1 x2 x3 x4 xs1 xs2).2.1)

/-- Case B stores nothing into scratch `arg9`: it holds what the point before left. -/
def sout0_B_2 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : ¬cond0_1 i) (hc2 : cond0_2 i)
    (x0 : Vec F S5120x320 .i8) (x1 : Vec F S5120x10 .i8) (x2 : Vec F S3x3x320x640 .fp8e4m3) (x3 : Vec F S3x3x10x640 .i8) (x4 : Vec F S640x1 .f32) (xs1 : Vec F S4x1360x256 .bf16) (xs2 : Vec F S12x640x256 .bf16) : Vec F S12x640x256 .bf16 := xs2

/-- Case C's pieces for output 5 tile its block (5 stores of `S256x640`, checked by the kernel's evaluation: Lib/Ring.lean `Piece.tiledL`, linear in the pieces, through a loop's `@[irreducible]` trip theorem too), so they cover it. -/
theorem cover0_C_5 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (xs2 : Vec F S12x640x256 .bf16) (y : S1280x640.Idx) :
    ∃ pc ∈ (kernelRun0_C c i arg1 harg1 arg2 harg2 arg3 harg3 arg4 harg4 arg5 harg5 arg6 harg6 arg7 harg7 arg8 harg8 arg9 harg9 hc0 hc1 hc2 x0 x1 x2 x3 x4 xs2).1, y ∈ pc.1.set :=
  View.cover_of_tiledL (kernelRun0_C c i arg1 harg1 arg2 harg2 arg3 harg3 arg4 harg4 arg5 harg5 arg6 harg6 arg7 harg7 arg8 harg8 arg9 harg9 hc0 hc1 hc2 x0 x1 x2 x3 x4 xs2).1 S256x640.size (by sl_kernel_rfl) y

/-- What case C leaves in output 5's staging buffer: its pieces read back over junk. -/
def out0_C_5 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (xs2 : Vec F S12x640x256 .bf16) : Vec F S1280x640 .bf16 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 hc2 x0 x1 x2 x3 x4 xs2).1)

/-- Case C's pieces for scratch `arg8`, which the kernel carries between points, cover it: 129 pieces (stores and landed copies) of several sizes (`S1x80x128`, `S4x80x256`) tiling it when cut into blocks of `![1, 80, 128]` (Lib/Ring.lean `Piece.tiledBy`). -/
theorem scover0_C_1 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (xs2 : Vec F S12x640x256 .bf16) (y : S4x1360x256.Idx) :
    ∃ pc ∈ (kernelRun0_C c i arg1 harg1 arg2 harg2 arg3 harg3 arg4 harg4 arg5 harg5 arg6 harg6 arg7 harg7 arg8 harg8 arg9 harg9 hc0 hc1 hc2 x0 x1 x2 x3 x4 xs2).2.1, y ∈ pc.1.set :=
  View.cover_of_tiledBy (kernelRun0_C c i arg1 harg1 arg2 harg2 arg3 harg3 arg4 harg4 arg5 harg5 arg6 harg6 arg7 harg7 arg8 harg8 arg9 harg9 hc0 hc1 hc2 x0 x1 x2 x3 x4 xs2).2.1 ![1, 80, 128] (by sl_kernel_rfl) y

/-- What case C leaves in scratch `arg8`: its pieces read back over junk. -/
def sout0_C_1 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (xs2 : Vec F S12x640x256 .bf16) : Vec F S4x1360x256 .bf16 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 hc2 x0 x1 x2 x3 x4 xs2).2.1)

/-- Case C stores nothing into scratch `arg9`: it holds what the point before left. -/
def sout0_C_2 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (xs2 : Vec F S12x640x256 .bf16) : Vec F S12x640x256 .bf16 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1280x640 .bf16 × Vec F S4x1360x256 .bf16 × Vec F S12x640x256 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 6 = 0 then
      if h1 : (n + 1) % 3 = 0 then
        if h2 : ¬((n + 1) % 3 = 0) then
          False.elim (by have hN : n + 1 < 6 := lt_of_lt_of_eq hn (show cfg0.N = 6 from N_0); omega)
        else
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        False.elim (by have hN : n + 1 < 6 := lt_of_lt_of_eq hn (show cfg0.N = 6 from N_0); omega)
    else
      if h1 : (n + 1) % 3 = 0 then
        if h2 : ¬((n + 1) % 3 = 0) then
          False.elim (by have hN : n + 1 < 6 := lt_of_lt_of_eq hn (show cfg0.N = 6 from N_0); omega)
        else
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)
      else
        if h2 : ¬((n + 1) % 3 = 0) then
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)
        else
          False.elim (by have hN : n + 1 < 6 := lt_of_lt_of_eq hn (show cfg0.N = 6 from N_0); omega)

/-- `outsAt0` at a point of case A: that case's contents. -/
theorem outsAt0_A (c : Dev nD) (t : Fin cfg0.N) (h0 : t.val % 6 = 0) (h1 : t.val % 3 = 0) (h2 : ¬¬(t.val % 3 = 0)) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 6 = 0) (h1 : ¬t.val % 3 = 0) (h2 : ¬(t.val % 3 = 0)) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case C: that case's contents, over what the point before left. -/
theorem outsAt0_C (c : Dev nD) (t : Fin cfg0.N) (h0 : ¬t.val % 6 = 0) (h1 : t.val % 3 = 0) (h2 : ¬¬(t.val % 3 = 0)) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.1) ∗ owns (c : Thread nD τ) scM0_2 fullShare ((outsAt0 m c n hn).2.2)) ∗ (∃ r, prngReg c r))

/-- Before the first point the scratch may hold anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.1) ∗ owns (c : Thread nD τ) scM0_2 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.1) ∗ owns (c : Thread nD τ) scM0_2 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d
/-- What window 4 holds before a point. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 6 := lt_of_lt_of_eq t.isLt (show cfg0.N = 6 from N_0)
  by_cases h0 : t.val % 6 = 0
  · by_cases h1 : t.val % 3 = 0
    · by_cases h2 : ¬(t.val % 3 = 0)
      · exfalso; omega
      · by_cases hz : t.val = 0
        · rw [PhiS_castSucc m c t, PhiS_zero m c _ _ hz, PhiA0_eq]
          rw [outsAt0_A m c t h0 h1 h2]
          unfold out0_A_5 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          iintro ⟨H0, H1, H2, H3, H4, ⟨%e5, H5⟩, HS0, ⟨%es1, HS1⟩, ⟨%es2, HS2⟩⟩
          isplitl [HS0 HS1 HS2 Hg]
          · isplitl [HS0 HS1 HS2]
            · isplitl [HS0]
              · iexact HS0
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_A_5 c _ _ _ _ _ _ _ _ _ _ _ _ _ _ _ _ _ _ _ _ _ _ _ _ _ _ _)
        · exfalso; have hN : t.val < 6 := lt_of_lt_of_eq t.isLt (show cfg0.N = 6 from N_0); omega
    · exfalso; omega
  · by_cases h1 : t.val % 3 = 0
    · by_cases h2 : ¬(t.val % 3 = 0)
      · exfalso; omega
      · by_cases hz : t.val = 0
        · exfalso; have hN : t.val < 6 := lt_of_lt_of_eq t.isLt (show cfg0.N = 6 from N_0); omega
        · rw [PhiS_castSucc m c t, PhiS_pos m c _ _ hz]
          rw [outsAt0_C m c t h0 h1 h2]
          unfold out0_C_5 sout0_C_1 sout0_C_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_C c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexists _; iexact HS1
          isplitl [HS2]; · iexact HS2
          iintro ⟨H0, H1, H2, H3, H4, ⟨%e5, H5⟩, HS0, ⟨%es1, HS1⟩, HS2⟩
          isplitl [HS0 HS1 HS2 Hg]
          · isplitl [HS0 HS1 HS2]
            · isplitl [HS0]
              · iexact HS0
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _)
              iexact HS2
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_C_5 c _ _ _ _ _ _ _ _ _ _ _ _ _ _ _ _ _ _ _ _ _ _ _ _ _ _ _ _)
    · by_cases h2 : ¬(t.val % 3 = 0)
      · by_cases hz : t.val = 0
        · exfalso; have hN : t.val < 6 := lt_of_lt_of_eq t.isLt (show cfg0.N = 6 from N_0); omega
        · rw [PhiS_castSucc m c t, PhiS_pos m c _ _ hz]
          rw [outsAt0_B m c t h0 h1 h2]
          unfold out0_B_5 sout0_B_1 sout0_B_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _ _).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          iintro ⟨H0, H1, H2, H3, H4, ⟨%e5, H5⟩, HS0, ⟨%es1, HS1⟩, HS2⟩
          isplitl [HS0 HS1 HS2 Hg]
          · isplitl [HS0 HS1 HS2]
            · isplitl [HS0]
              · iexact HS0
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _)
              iexact HS2
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_B_5 c _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 6 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.KernelFill.lean ====
/- The scratch that the first counted loop fills, whatever it held before: every row of `arg7`, and the rows of `arg8` below its first eighty,
   are written by the loop, and the first eighty rows of `arg8` before it. So what a point reads back from them depends on the inputs alone. -/
module

public import proofs.«01_k».proof.Proof.Gen.KernelIdeal.Frame.Runs
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL.Sem

variable {F : FTy → Type} [FloatOps F]

/-- The first loop's pieces cover the even rows' scratch. -/
theorem cover7 (c : Dev nD) (i : grid0.Coords)
    (arg1 : Memref sig .tc .vmem S5120x320 .i8) (harg1 : arg1.IsWhole) (arg2 : Memref sig .tc .vmem S5120x10 .i8) (harg2 : arg2.IsWhole)
    (arg3 : Memref sig .tc .vmem S3x3x320x640 .fp8e4m3) (harg3 : arg3.IsWhole) (arg4 : Memref sig .tc .vmem S3x3x10x640 .i8) (harg4 : arg4.IsWhole)
    (arg5 : Memref sig .tc .vmem S640x1 .f32) (harg5 : arg5.IsWhole) (arg6 : Memref sig .tc .vmem S1280x640 .bf16) (harg6 : arg6.IsWhole)
    (arg7 : Memref sig .tc .vmem S4x1280x256 .bf16) (harg7 : arg7.IsWhole) (arg8 : Memref sig .tc .vmem S4x1360x256 .bf16) (harg8 : arg8.IsWhole)
    (arg9 : Memref sig .tc .vmem S12x640x256 .bf16) (harg9 : arg9.IsWhole)
    (X1 : BufTy.Contents (Elt F) arg1.view.ty) (X2 : BufTy.Contents (Elt F) arg2.view.ty) (y : S4x1280x256.Idx) :
    ∃ p ∈ (pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).1, y ∈ p.1.set :=
  View.cover_of_tiledBy (pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).1 ![1, 80, 128] (by sl_kernel_rfl) y

/-- … so its contents after the loop are the loop's, whatever was there. -/
theorem fill7 (c : Dev nD) (i : grid0.Coords)
    (arg1 : Memref sig .tc .vmem S5120x320 .i8) (harg1 : arg1.IsWhole) (arg2 : Memref sig .tc .vmem S5120x10 .i8) (harg2 : arg2.IsWhole)
    (arg3 : Memref sig .tc .vmem S3x3x320x640 .fp8e4m3) (harg3 : arg3.IsWhole) (arg4 : Memref sig .tc .vmem S3x3x10x640 .i8) (harg4 : arg4.IsWhole)
    (arg5 : Memref sig .tc .vmem S640x1 .f32) (harg5 : arg5.IsWhole) (arg6 : Memref sig .tc .vmem S1280x640 .bf16) (harg6 : arg6.IsWhole)
    (arg7 : Memref sig .tc .vmem S4x1280x256 .bf16) (harg7 : arg7.IsWhole) (arg8 : Memref sig .tc .vmem S4x1360x256 .bf16) (harg8 : arg8.IsWhole)
    (arg9 : Memref sig .tc .vmem S12x640x256 .bf16) (harg9 : arg9.IsWhole)
    (X1 : BufTy.Contents (Elt F) arg1.view.ty) (X2 : BufTy.Contents (Elt F) arg2.view.ty) (f : BufTy.Contents (Elt F) arg7.view.ty) :
    arg7.view.writes (Elt F) f (pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).1 = harg7.unread (View.canon (pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).1) :=
  harg7.eq_unread (View.read_writes_eq_canon arg7.view f _ (cover7 c i arg1 harg1 arg2 harg2 arg3 harg3 arg4 harg4 arg5 harg5 arg6 harg6 arg7 harg7 arg8 harg8 arg9 harg9 X1 X2))

/-- The first loop's pieces and a first store of eighty rows cover the odd rows' scratch. -/
theorem cover8 (c : Dev nD) (i : grid0.Coords)
    (arg1 : Memref sig .tc .vmem S5120x320 .i8) (harg1 : arg1.IsWhole) (arg2 : Memref sig .tc .vmem S5120x10 .i8) (harg2 : arg2.IsWhole)
    (arg3 : Memref sig .tc .vmem S3x3x320x640 .fp8e4m3) (harg3 : arg3.IsWhole) (arg4 : Memref sig .tc .vmem S3x3x10x640 .i8) (harg4 : arg4.IsWhole)
    (arg5 : Memref sig .tc .vmem S640x1 .f32) (harg5 : arg5.IsWhole) (arg6 : Memref sig .tc .vmem S1280x640 .bf16) (harg6 : arg6.IsWhole)
    (arg7 : Memref sig .tc .vmem S4x1280x256 .bf16) (harg7 : arg7.IsWhole) (arg8 : Memref sig .tc .vmem S4x1360x256 .bf16) (harg8 : arg8.IsWhole)
    (arg9 : Memref sig .tc .vmem S12x640x256 .bf16) (harg9 : arg9.IsWhole)
    (X1 : BufTy.Contents (Elt F) arg1.view.ty) (X2 : BufTy.Contents (Elt F) arg2.view.ty)
    (w : Vec F S4x80x256 .bf16) (y : S4x1360x256.Idx) :
    ∃ p ∈ ((pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).2 ++ [⟨Rect.unit ![0, 0, 0] S4x80x256.size inb_S4x1360x256_S4x80x256_0_0_0, w⟩]), y ∈ p.1.set :=
  View.cover_of_tiledBy ((pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).2 ++ [⟨Rect.unit ![0, 0, 0] S4x80x256.size inb_S4x1360x256_S4x80x256_0_0_0, w⟩]) ![1, 80, 128] (by sl_kernel_rfl) y

/-- … so its contents after the loop are the loop's and the first store's, whatever was there. -/
theorem fill8 (c : Dev nD) (i : grid0.Coords)
    (arg1 : Memref sig .tc .vmem S5120x320 .i8) (harg1 : arg1.IsWhole) (arg2 : Memref sig .tc .vmem S5120x10 .i8) (harg2 : arg2.IsWhole)
    (arg3 : Memref sig .tc .vmem S3x3x320x640 .fp8e4m3) (harg3 : arg3.IsWhole) (arg4 : Memref sig .tc .vmem S3x3x10x640 .i8) (harg4 : arg4.IsWhole)
    (arg5 : Memref sig .tc .vmem S640x1 .f32) (harg5 : arg5.IsWhole) (arg6 : Memref sig .tc .vmem S1280x640 .bf16) (harg6 : arg6.IsWhole)
    (arg7 : Memref sig .tc .vmem S4x1280x256 .bf16) (harg7 : arg7.IsWhole) (arg8 : Memref sig .tc .vmem S4x1360x256 .bf16) (harg8 : arg8.IsWhole)
    (arg9 : Memref sig .tc .vmem S12x640x256 .bf16) (harg9 : arg9.IsWhole)
    (X1 : BufTy.Contents (Elt F) arg1.view.ty) (X2 : BufTy.Contents (Elt F) arg2.view.ty)
    (w : Vec F S4x80x256 .bf16)
    (f : BufTy.Contents (Elt F) arg8.view.ty) :
    arg8.view.writes (Elt F) f ((pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).2 ++ [⟨Rect.unit ![0, 0, 0] S4x80x256.size inb_S4x1360x256_S4x80x256_0_0_0, w⟩])
      = harg8.unread (View.canon ((pb_k0_t1 (F := F) Variants.none c none i arg1 harg1 arg2 harg2 arg3 harg3 arg4 harg4 arg5 harg5 arg6 harg6 arg7 harg7 arg8 harg8 arg9 harg9 X1 X2 (Scf.trips k0_t1_loop.lb k0_t1_loop.ub k0_t1_loop.st)).2 ++ [⟨Rect.unit ![0, 0, 0] S4x80x256.size inb_S4x1360x256_S4x80x256_0_0_0, w⟩])) :=
  harg8.eq_unread (View.read_writes_eq_canon arg8.view f _ (cover8 c i arg1 harg1 arg2 harg2 arg3 harg3 arg4 harg4 arg5 harg5 arg6 harg6 arg7 harg7 arg8 harg8 arg9 harg9 X1 X2 w))

end Cert.KernelIdeal.Gen

end
-- ==== Proof.KernelRunA.lean ====
/- The whole body run in case A of the frame, as the generated module states it, with the scratch contents rewritten after the run
   to what the stores leave whatever the scratch held before (KernelFill), so that the pieces found are of the inputs alone. -/
module

public import proofs.«01_k».proof.Proof.KernelFill

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) :
    Σ' (L5 : List (View.Piece (Elt F) S1280x640 .bf16)), Σ' (LS1 : List (View.Piece (Elt F) S4x1360x256 .bf16)), { LS2 : List (View.Piece (Elt F) S12x640x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_mx_conv i arg1 harg1 arg2 harg2 arg3 harg3 arg4 harg4 arg5 harg5 arg6 harg6 arg7 harg7 arg8 harg8 arg9 harg9) K } := by
  refine ⟨?_, ?_, ?_, fun E K => ?run⟩
  case run =>
    simp only [cc0_mx_conv_eq_skeleton]; unfold cc0_mx_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    rw [fill7]
    rw (occs := .pos [2]) [fill8]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    isplitl [HS1]; · iexists _; iexact HS1
    iexists _; iexact HS2

end Cert.KernelIdeal.Gen

end
-- ==== Proof.KernelRunB.lean ====
/- The whole body run in case B of the frame, as the generated module states it, with the scratch contents rewritten after the run
   to what the stores leave whatever the scratch held before (KernelFill), so that the pieces found are of the inputs alone. -/
module

public import proofs.«01_k».proof.Proof.KernelRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 taken: points 1, 2, 4, 5), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : ¬cond0_1 i) (hc2 : cond0_2 i)
    (x0 : Vec F S5120x320 .i8) (x1 : Vec F S5120x10 .i8) (x2 : Vec F S3x3x320x640 .fp8e4m3) (x3 : Vec F S3x3x10x640 .i8) (x4 : Vec F S640x1 .f32) (xs1 : Vec F S4x1360x256 .bf16) (xs2 : Vec F S12x640x256 .bf16) :
    Σ' (L5 : List (View.Piece (Elt F) S1280x640 .bf16)), Σ' (LS1 : List (View.Piece (Elt F) S4x1360x256 .bf16)), { LS2 : List (View.Piece (Elt F) S12x640x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ f, arg8.view.loc (c : Thread nD τ) ↦[arg8.view.set]{fullShare} arg8.view.writes (Elt F) f LS1) ∗ owns (c : Thread nD τ) arg9 fullShare xs2) -∗ K ⟨⟩))
          ⊢ wp frame (wpE (defs₀ (F := F)) Variants.none c none) E (cc0_mx_conv i arg1 harg1 arg2 harg2 arg3 harg3 arg4 harg4 arg5 harg5 arg6 harg6 arg7 harg7 arg8 harg8 arg9 harg9) K } := by
  refine ⟨?_, ?_, [], fun E K => ?run⟩
  case run =>
    simp only [cc0_mx_conv_eq_skeleton]; unfold cc0_mx_conv_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs1; obtain rfl := harg9.eq_unread hfs2
    sl_exec (disch := first | sl_exact hc0 | sl_exact hc1 | sl_exact hc2)
    sl_step
    rw [fill7]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    isplitl [HS1]; · iexists _; iexact HS1
    iexists _; isplitr; · ipureintro; exact harg9.read_unread _
    iexact HS2

end Cert.KernelIdeal.Gen

end
-- ==== Proof.KernelRunC.lean ====
/- The whole body run in case C of the frame, as the generated module states it, with the scratch contents rewritten after the run
   to what the stores leave whatever the scratch held before (KernelFill), so that the pieces found are of the inputs alone. -/
module

public import proofs.«01_k».proof.Proof.KernelRunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 not taken: points 3), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (xs2 : Vec F S12x640x256 .bf16) :
    Σ' (L5 : List (View.Piece (Elt F) S1280x640 .bf16)), Σ' (LS1 : List (View.Piece (Elt F) S4x1360x256 .bf16)), { LS2 : List (View.Piece (Elt F) S12x640x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ f, arg8.view.loc (c : Thread nD τ) ↦[arg8.view.set]{fullShare} arg8.view.writes (Elt F) f LS1) ∗ owns (c : Thread nD τ) arg9 fullShare xs2) -∗ K ⟨⟩))
          ⊢ wp frame (wpE (defs₀ (F := F)) Variants.none c none) E (cc0_mx_conv i arg1 harg1 arg2 harg2 arg3 harg3 arg4 harg4 arg5 harg5 arg6 harg6 arg7 harg7 arg8 harg8 arg9 harg9) K } := by
  refine ⟨?_, ?_, [], fun E K => ?run⟩
  case run =>
    simp only [cc0_mx_conv_eq_skeleton]; unfold cc0_mx_conv_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs2
    sl_exec (disch := first | sl_exact hc0 | sl_exact hc1 | sl_exact hc2)
    sl_step
    rw [fill7]
    rw (occs := .pos [2]) [fill8]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    isplitl [HS1]; · iexists _; iexact HS1
    iexists _; isplitr; · ipureintro; exact harg9.read_unread _
    iexact HS2

end Cert.KernelIdeal.Gen

end
-- ==== Proof.KernelFrame.lean ====
/- The frame of `KernelIdeal`, laid out as the library generates frames, over the run modules beside this one in place of generated ones:
   what the output block and the carried scratch (`arg8`, `arg9`) hold in each of the three cases (`out0_κ_W`, `sout0_κ_S`)
   and point by point (`outsAt0`), the proof data (`dats`), the obligation of the body, the run (`run_main`) and `frame`.
   The cases are of the body's conditionals: A the first point, B a point that is not an image's first, C the second image's first point. -/
module

public import proofs.«01_k».proof.Proof.KernelRunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (5 stores of `S256x640`, checked by the kernel's evaluation: Lib/Ring.lean `Piece.tiledL`, linear in the pieces, through a loop's `@[irreducible]` trip theorem too), so they cover it. -/
theorem cover0_A_5 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (y : S1280x640.Idx) :
    ∃ pc ∈ (kernelRun0_A c i arg1 harg1 arg2 harg2 arg3 harg3 arg4 harg4 arg5 harg5 arg6 harg6 arg7 harg7 arg8 harg8 arg9 harg9 hc0 hc1 hc2 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 hc1 hc2 x0 x1 x2 x3 x4).1 S256x640.size (by sl_kernel_rfl) y

/-- What case A leaves in output 5's staging buffer: its pieces read back over junk. -/
def out0_A_5 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) : Vec F S1280x640 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 hc2 x0 x1 x2 x3 x4).1)

/-- Case A's pieces for scratch `arg8`, which the kernel carries between points, cover it: 129 pieces (stores and landed copies) of several sizes (`S1x80x128`, `S4x80x256`) tiling it when cut into blocks of `![1, 80, 128]` (Lib/Ring.lean `Piece.tiledBy`). -/
theorem scover0_A_1 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (y : S4x1360x256.Idx) :
    ∃ pc ∈ (kernelRun0_A c i arg1 harg1 arg2 harg2 arg3 harg3 arg4 harg4 arg5 harg5 arg6 harg6 arg7 harg7 arg8 harg8 arg9 harg9 hc0 hc1 hc2 x0 x1 x2 x3 x4).2.1, y ∈ pc.1.set :=
  View.cover_of_tiledBy (kernelRun0_A c i arg1 harg1 arg2 harg2 arg3 harg3 arg4 harg4 arg5 harg5 arg6 harg6 arg7 harg7 arg8 harg8 arg9 harg9 hc0 hc1 hc2 x0 x1 x2 x3 x4).2.1 ![1, 80, 128] (by sl_kernel_rfl) y

/-- What case A leaves in scratch `arg8`: its pieces read back over junk. -/
def sout0_A_1 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) : Vec F S4x1360x256 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 hc2 x0 x1 x2 x3 x4).2.1)

/-- Case A's pieces for scratch `arg9`, which the kernel carries between points, cover it: 12 pieces of `S1x640x256` tiling it (Lib/Ring.lean `Piece.tiledL`). -/
theorem scover0_A_2 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (y : S12x640x256.Idx) :
    ∃ pc ∈ (kernelRun0_A c i arg1 harg1 arg2 harg2 arg3 harg3 arg4 harg4 arg5 harg5 arg6 harg6 arg7 harg7 arg8 harg8 arg9 harg9 hc0 hc1 hc2 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 x0 x1 x2 x3 x4).2.2.1 S1x640x256.size (by sl_kernel_rfl) y

/-- What case A leaves in scratch `arg9`: its pieces read back over junk. -/
def sout0_A_2 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) : Vec F S12x640x256 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 hc0 hc1 hc2 x0 x1 x2 x3 x4).2.2.1)

/-- Case B's pieces for output 5 tile its block (5 stores of `S256x640`, checked by the kernel's evaluation: Lib/Ring.lean `Piece.tiledL`, linear in the pieces, through a loop's `@[irreducible]` trip theorem too), so they cover it. -/
theorem cover0_B_5 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : ¬cond0_1 i) (hc2 : cond0_2 i)
    (x0 : Vec F S5120x320 .i8) (x1 : Vec F S5120x10 .i8) (x2 : Vec F S3x3x320x640 .fp8e4m3) (x3 : Vec F S3x3x10x640 .i8) (x4 : Vec F S640x1 .f32) (xs1 : Vec F S4x1360x256 .bf16) (xs2 : Vec F S12x640x256 .bf16) (y : S1280x640.Idx) :
    ∃ pc ∈ (kernelRun0_B c i arg1 harg1 arg2 harg2 arg3 harg3 arg4 harg4 arg5 harg5 arg6 harg6 arg7 harg7 arg8 harg8 arg9 harg9 hc0 hc1 hc2 x0 x1 x2 x3 x4 xs1 xs2).1, y ∈ pc.1.set :=
  View.cover_of_tiledL (kernelRun0_B c i arg1 harg1 arg2 harg2 arg3 harg3 arg4 harg4 arg5 harg5 arg6 harg6 arg7 harg7 arg8 harg8 arg9 harg9 hc0 hc1 hc2 x0 x1 x2 x3 x4 xs1 xs2).1 S256x640.size (by sl_kernel_rfl) y

/-- What case B leaves in output 5's staging buffer: its pieces read back over junk. -/
def out0_B_5 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : ¬cond0_1 i) (hc2 : cond0_2 i)
    (x0 : Vec F S5120x320 .i8) (x1 : Vec F S5120x10 .i8) (x2 : Vec F S3x3x320x640 .fp8e4m3) (x3 : Vec F S3x3x10x640 .i8) (x4 : Vec F S640x1 .f32) (xs1 : Vec F S4x1360x256 .bf16) (xs2 : Vec F S12x640x256 .bf16) : Vec F S1280x640 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 hc2 x0 x1 x2 x3 x4 xs1 xs2).1)

/-- Case B's pieces for scratch `arg8`, which the kernel carries between points, cover it: 129 pieces (stores and landed copies) of several sizes (`S1x80x128`, `S4x80x256`) tiling it when cut into blocks of `![1, 80, 128]` (Lib/Ring.lean `Piece.tiledBy`). -/
theorem scover0_B_1 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : ¬cond0_1 i) (hc2 : cond0_2 i)
    (x0 : Vec F S5120x320 .i8) (x1 : Vec F S5120x10 .i8) (x2 : Vec F S3x3x320x640 .fp8e4m3) (x3 : Vec F S3x3x10x640 .i8) (x4 : Vec F S640x1 .f32) (xs1 : Vec F S4x1360x256 .bf16) (xs2 : Vec F S12x640x256 .bf16) (y : S4x1360x256.Idx) :
    ∃ pc ∈ (kernelRun0_B c i arg1 harg1 arg2 harg2 arg3 harg3 arg4 harg4 arg5 harg5 arg6 harg6 arg7 harg7 arg8 harg8 arg9 harg9 hc0 hc1 hc2 x0 x1 x2 x3 x4 xs1 xs2).2.1, y ∈ pc.1.set :=
  View.cover_of_tiledBy (kernelRun0_B c i arg1 harg1 arg2 harg2 arg3 harg3 arg4 harg4 arg5 harg5 arg6 harg6 arg7 harg7 arg8 harg8 arg9 harg9 hc0 hc1 hc2 x0 x1 x2 x3 x4 xs1 xs2).2.1 ![1, 80, 128] (by sl_kernel_rfl) y

/-- What case B leaves in scratch `arg8`: its pieces read back over junk. -/
def sout0_B_1 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : ¬cond0_1 i) (hc2 : cond0_2 i)
    (x0 : Vec F S5120x320 .i8) (x1 : Vec F S5120x10 .i8) (x2 : Vec F S3x3x320x640 .fp8e4m3) (x3 : Vec F S3x3x10x640 .i8) (x4 : Vec F S640x1 .f32) (xs1 : Vec F S4x1360x256 .bf16) (xs2 : Vec F S12x640x256 .bf16) : Vec F S4x1360x256 .bf16 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 hc2 x0 x1 x2 x3 x4 xs1 xs2).2.1)

/-- Case B stores nothing into scratch `arg9`: it holds what the point before left. -/
def sout0_B_2 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : ¬cond0_1 i) (hc2 : cond0_2 i)
    (x0 : Vec F S5120x320 .i8) (x1 : Vec F S5120x10 .i8) (x2 : Vec F S3x3x320x640 .fp8e4m3) (x3 : Vec F S3x3x10x640 .i8) (x4 : Vec F S640x1 .f32) (xs1 : Vec F S4x1360x256 .bf16) (xs2 : Vec F S12x640x256 .bf16) : Vec F S12x640x256 .bf16 := xs2

/-- Case C's pieces for output 5 tile its block (5 stores of `S256x640`, checked by the kernel's evaluation: Lib/Ring.lean `Piece.tiledL`, linear in the pieces, through a loop's `@[irreducible]` trip theorem too), so they cover it. -/
theorem cover0_C_5 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (xs2 : Vec F S12x640x256 .bf16) (y : S1280x640.Idx) :
    ∃ pc ∈ (kernelRun0_C c i arg1 harg1 arg2 harg2 arg3 harg3 arg4 harg4 arg5 harg5 arg6 harg6 arg7 harg7 arg8 harg8 arg9 harg9 hc0 hc1 hc2 x0 x1 x2 x3 x4 xs2).1, y ∈ pc.1.set :=
  View.cover_of_tiledL (kernelRun0_C c i arg1 harg1 arg2 harg2 arg3 harg3 arg4 harg4 arg5 harg5 arg6 harg6 arg7 harg7 arg8 harg8 arg9 harg9 hc0 hc1 hc2 x0 x1 x2 x3 x4 xs2).1 S256x640.size (by sl_kernel_rfl) y

/-- What case C leaves in output 5's staging buffer: its pieces read back over junk. -/
def out0_C_5 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (xs2 : Vec F S12x640x256 .bf16) : Vec F S1280x640 .bf16 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 hc2 x0 x1 x2 x3 x4 xs2).1)

/-- Case C's pieces for scratch `arg8`, which the kernel carries between points, cover it: 129 pieces (stores and landed copies) of several sizes (`S1x80x128`, `S4x80x256`) tiling it when cut into blocks of `![1, 80, 128]` (Lib/Ring.lean `Piece.tiledBy`). -/
theorem scover0_C_1 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (xs2 : Vec F S12x640x256 .bf16) (y : S4x1360x256.Idx) :
    ∃ pc ∈ (kernelRun0_C c i arg1 harg1 arg2 harg2 arg3 harg3 arg4 harg4 arg5 harg5 arg6 harg6 arg7 harg7 arg8 harg8 arg9 harg9 hc0 hc1 hc2 x0 x1 x2 x3 x4 xs2).2.1, y ∈ pc.1.set :=
  View.cover_of_tiledBy (kernelRun0_C c i arg1 harg1 arg2 harg2 arg3 harg3 arg4 harg4 arg5 harg5 arg6 harg6 arg7 harg7 arg8 harg8 arg9 harg9 hc0 hc1 hc2 x0 x1 x2 x3 x4 xs2).2.1 ![1, 80, 128] (by sl_kernel_rfl) y

/-- What case C leaves in scratch `arg8`: its pieces read back over junk. -/
def sout0_C_1 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (xs2 : Vec F S12x640x256 .bf16) : Vec F S4x1360x256 .bf16 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 hc2 x0 x1 x2 x3 x4 xs2).2.1)

/-- Case C stores nothing into scratch `arg9`: it holds what the point before left. -/
def sout0_C_2 (c : Dev nD) (i : grid0.Coords) (arg1 : Memref sig .tc .vmem S5120x320 .i8) (harg1 : arg1.IsWhole) (arg2 : Memref sig .tc .vmem S5120x10 .i8) (harg2 : arg2.IsWhole) (arg3 : Memref sig .tc .vmem S3x3x320x640 .fp8e4m3) (harg3 : arg3.IsWhole) (arg4 : Memref sig .tc .vmem S3x3x10x640 .i8) (harg4 : arg4.IsWhole) (arg5 : Memref sig .tc .vmem S640x1 .f32) (harg5 : arg5.IsWhole) (arg6 : Memref sig .tc .vmem S1280x640 .bf16) (harg6 : arg6.IsWhole) (arg7 : Memref sig .tc .vmem S4x1280x256 .bf16) (harg7 : arg7.IsWhole) (arg8 : Memref sig .tc .vmem S4x1360x256 .bf16) (harg8 : arg8.IsWhole) (arg9 : Memref sig .tc .vmem S12x640x256 .bf16) (harg9 : arg9.IsWhole) (hc0 : ¬cond0_0 i) (hc1 : cond0_1 i) (hc2 : ¬cond0_2 i)
    (x0 : Vec F S5120x320 .i8) (x1 : Vec F S5120x10 .i8) (x2 : Vec F S3x3x320x640 .fp8e4m3) (x3 : Vec F S3x3x10x640 .i8) (x4 : Vec F S640x1 .f32) (xs2 : Vec F S12x640x256 .bf16) : Vec F S12x640x256 .bf16 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1280x640 .bf16 × Vec F S4x1360x256 .bf16 × Vec F S12x640x256 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 6 = 0 then
      if h1 : (n + 1) % 3 = 0 then
        if h2 : ¬((n + 1) % 3 = 0) then
          False.elim (by have hN : n + 1 < 6 := lt_of_lt_of_eq hn (show cfg0.N = 6 from N_0); omega)
        else
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        False.elim (by have hN : n + 1 < 6 := lt_of_lt_of_eq hn (show cfg0.N = 6 from N_0); omega)
    else
      if h1 : (n + 1) % 3 = 0 then
        if h2 : ¬((n + 1) % 3 = 0) then
          False.elim (by have hN : n + 1 < 6 := lt_of_lt_of_eq hn (show cfg0.N = 6 from N_0); omega)
        else
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)
      else
        if h2 : ¬((n + 1) % 3 = 0) then
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)
        else
          False.elim (by have hN : n + 1 < 6 := lt_of_lt_of_eq hn (show cfg0.N = 6 from N_0); omega)

/-- `outsAt0` at a point of case A: that case's contents. -/
theorem outsAt0_A (c : Dev nD) (t : Fin cfg0.N) (h0 : t.val % 6 = 0) (h1 : t.val % 3 = 0) (h2 : ¬¬(t.val % 3 = 0)) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 6 = 0) (h1 : ¬t.val % 3 = 0) (h2 : ¬(t.val % 3 = 0)) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- `outsAt0` at a point of case C: that case's contents, over what the point before left. -/
theorem outsAt0_C (c : Dev nD) (t : Fin cfg0.N) (h0 : ¬t.val % 6 = 0) (h1 : t.val % 3 = 0) (h2 : ¬¬(t.val % 3 = 0)) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.1) ∗ owns (c : Thread nD τ) scM0_2 fullShare ((outsAt0 m c n hn).2.2)) ∗ (∃ r, prngReg c r))

/-- Before the first point the scratch may hold anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.1) ∗ owns (c : Thread nD τ) scM0_2 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.1) ∗ owns (c : Thread nD τ) scM0_2 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What window 4 holds after a point. -/
theorem after0_4 (c : Dev nD) (t : Fin cfg0.N) : (dats m 0 c).after 4 t = iblk m c 4 t := by dsimp only [dats]
/-- What window 5 holds after a point. -/
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d
/-- What window 4 holds before a point. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 6 := lt_of_lt_of_eq t.isLt (show cfg0.N = 6 from N_0)
  by_cases h0 : t.val % 6 = 0
  · by_cases h1 : t.val % 3 = 0
    · by_cases h2 : ¬(t.val % 3 = 0)
      · exfalso; omega
      · by_cases hz : t.val = 0
        · rw [PhiS_castSucc m c t, PhiS_zero m c _ _ hz, PhiA0_eq]
          rw [outsAt0_A m c t h0 h1 h2]
          unfold out0_A_5 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          iintro ⟨H0, H1, H2, H3, H4, ⟨%e5, H5⟩, HS0, ⟨%es1, HS1⟩, ⟨%es2, HS2⟩⟩
          isplitl [HS0 HS1 HS2 Hg]
          · isplitl [HS0 HS1 HS2]
            · isplitl [HS0]
              · iexact HS0
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_A_5 c _ _ _ _ _ _ _ _ _ _ _ _ _ _ _ _ _ _ _ _ _ _ _ _ _ _ _)
        · exfalso; have hN : t.val < 6 := lt_of_lt_of_eq t.isLt (show cfg0.N = 6 from N_0); omega
    · exfalso; omega
  · by_cases h1 : t.val % 3 = 0
    · by_cases h2 : ¬(t.val % 3 = 0)
      · exfalso; omega
      · by_cases hz : t.val = 0
        · exfalso; have hN : t.val < 6 := lt_of_lt_of_eq t.isLt (show cfg0.N = 6 from N_0); omega
        · rw [PhiS_castSucc m c t, PhiS_pos m c _ _ hz]
          rw [outsAt0_C m c t h0 h1 h2]
          unfold out0_C_5 sout0_C_1 sout0_C_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_C c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexists _; iexact HS1
          isplitl [HS2]; · iexact HS2
          iintro ⟨H0, H1, H2, H3, H4, ⟨%e5, H5⟩, HS0, ⟨%es1, HS1⟩, HS2⟩
          isplitl [HS0 HS1 HS2 Hg]
          · isplitl [HS0 HS1 HS2]
            · isplitl [HS0]
              · iexact HS0
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _)
              iexact HS2
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_C_5 c _ _ _ _ _ _ _ _ _ _ _ _ _ _ _ _ _ _ _ _ _ _ _ _ _ _ _ _)
    · by_cases h2 : ¬(t.val % 3 = 0)
      · by_cases hz : t.val = 0
        · exfalso; have hN : t.val < 6 := lt_of_lt_of_eq t.isLt (show cfg0.N = 6 from N_0); omega
        · rw [PhiS_castSucc m c t, PhiS_pos m c _ _ hz]
          rw [outsAt0_B m c t h0 h1 h2]
          unfold out0_B_5 sout0_B_1 sout0_B_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _ _).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          iintro ⟨H0, H1, H2, H3, H4, ⟨%e5, H5⟩, HS0, ⟨%es1, HS1⟩, HS2⟩
          isplitl [HS0 HS1 HS2 Hg]
          · isplitl [HS0 HS1 HS2]
            · isplitl [HS0]
              · iexact HS0
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _)
              iexact HS2
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_B_5 c _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 6 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KernelValue.lean ====
/- The value of `KernelIdeal`'s run, laid out as the library generates values, over the frame in KernelFrame: what the output and the
   carried scratch hold after each point as one fold over the points (`outsAt0`, `Pipeline.accAt`), the result array as that fold read at the
   point whose block holds each index (`G5`, `final_5`), and `run`, the frame's run with that equation. -/
module

public import proofs.«01_k».proof.Proof.KernelFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 6 = 0) (h1 : t.val % 3 = 0) (h2 : ¬¬(t.val % 3 = 0)) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  simp only [flushed5, outsAt0_A m c t h0 h1 h2]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 6 = 0) (h1 : ¬t.val % 3 = 0) (h2 : ¬(t.val % 3 = 0)) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed5, outsAt0_B m c t h0 h1 h2]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : ¬t.val % 6 = 0) (h1 : t.val % 3 = 0) (h2 : ¬¬(t.val % 3 = 0)) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2) := by
  simp only [flushed5, outsAt0_C m c t h0 h1 h2]

/-- The index map sends distinct grid points to distinct block indices (decided over the 6 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S7680x640.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the points ≡ 0 (mod 3)
    stores the scratch whole without reading what it held, and `acc` does not enter there (nor where no point meets the
    conditions: `acc`, never read). -/
def scAt0_1 (c : Dev nD) (n : ℕ) (hb : n < cfg0.N) (acc : Vec F S4x1360x256 .bf16) : Vec F S4x1360x256 .bf16 :=
  if h0 : n % 6 = 0 then
    if h1 : n % 3 = 0 then
      if h2 : ¬(n % 3 = 0) then
        acc
      else
        sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
    else
      acc
  else
    if h1 : n % 3 = 0 then
      if h2 : ¬(n % 3 = 0) then
        acc
      else
        sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.2
    else
      if h2 : ¬(n % 3 = 0) then
        sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2
      else
        acc

/-- WHAT CARRIED SCRATCH 1 HOLDS after point `t`: the fold of its run up to `t`, from the reset at the run's first point
    `3·(t / 3)` (Lib/Pipeline/Value.lean `Pipeline.eq_accAt_of_mod`, by the frame's `outsAt0_κ`; without enumerating the points). -/
theorem soutsAt0_1_eq (c : Dev nD) (t : Fin cfg0.N) :
    (outsAt0 m c t.val t.isLt).2.1 = Pipeline.accAt (fun n h => scAt0_1 m c n h (VS0_1.read (Elt F) VS0_1.junk)) (scAt0_1 m c) (3 * (t.val / 3)) (t.val % 3)
      (by have h1 := t.isLt; have h2 := Nat.div_add_mod t.val 3; omega) :=
  Pipeline.eq_accAt_of_mod (fun n h => (outsAt0 m c n h).2.1) 3 (fun n h => scAt0_1 m c n h (VS0_1.read (Elt F) VS0_1.junk)) (scAt0_1 m c)
    (fun n h hn => by
      have hN := lt_of_lt_of_eq h (show cfg0.N = 6 from N_0)
      by_cases h0 : n % 6 = 0 <;> by_cases h1 : n % 3 = 0 <;> by_cases h2 : ¬(n % 3 = 0)
      all_goals first | (exfalso; omega) | (rw [outsAt0_A m c ⟨n, h⟩ h0 h1 h2]; dsimp only; unfold scAt0_1; rw [dif_pos h0, dif_pos h1, dif_neg h2] <;> try rfl) | (rw [outsAt0_B m c ⟨n, h⟩ h0 h1 h2]; dsimp only; unfold scAt0_1; rw [dif_neg h0, dif_neg h1, dif_pos h2] <;> try rfl) | (rw [outsAt0_C m c ⟨n, h⟩ h0 h1 h2]; dsimp only; unfold scAt0_1; rw [dif_neg h0, dif_pos h1, dif_neg h2] <;> try rfl))
    (fun n h hn => by
      have hN := lt_of_lt_of_eq h (show cfg0.N = 6 from N_0)
      by_cases h0 : (n + 1) % 6 = 0 <;> by_cases h1 : (n + 1) % 3 = 0 <;> by_cases h2 : ¬((n + 1) % 3 = 0)
      all_goals first | (exfalso; omega) | (rw [outsAt0_A m c ⟨n + 1, h⟩ h0 h1 h2]; dsimp only; unfold scAt0_1; rw [dif_pos h0, dif_pos h1, dif_neg h2] <;> try rfl) | (rw [outsAt0_B m c ⟨n + 1, h⟩ h0 h1 h2]; dsimp only; unfold scAt0_1; rw [dif_neg h0, dif_neg h1, dif_pos h2] <;> try rfl) | (rw [outsAt0_C m c ⟨n + 1, h⟩ h0 h1 h2]; dsimp only; unfold scAt0_1; rw [dif_neg h0, dif_pos h1, dif_neg h2] <;> try rfl))
    (by decide) t.val t.isLt _

/-! ## Carried scratch 2: what each point leaves in it, and its fold -/

/-- What point `n` leaves in carried scratch 2, over what the point before left in it (`acc`): the case the conditions'
    closed forms select at `n`, the frame's own term for it (`Gen.sout0_κ_2`; anything else the case takes of the point
    before, another carried scratch or an output it reads back, stays `Gen.outsAt0`'s at `n - 1`); a case at the first point
    stores the scratch whole without reading what it held, and `acc` does not enter there (nor where no point meets the
    conditions: `acc`, never read). -/
def scAt0_2 (c : Dev nD) (n : ℕ) (hb : n < cfg0.N) (acc : Vec F S12x640x256 .bf16) : Vec F S12x640x256 .bf16 :=
  if h0 : n % 6 = 0 then
    if h1 : n % 3 = 0 then
      if h2 : ¬(n % 3 = 0) then
        acc
      else
        sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
    else
      acc
  else
    if h1 : n % 3 = 0 then
      if h2 : ¬(n % 3 = 0) then
        acc
      else
        sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
    else
      if h2 : ¬(n % 3 = 0) then
        sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc
      else
        acc

/-- WHAT CARRIED SCRATCH 2 HOLDS after point `t`: the fold of its run up to `t`, from the reset at the run's first point
    `6·(t / 6)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2 = Pipeline.accAt (fun n h => scAt0_2 m c n h (VS0_2.read (Elt F) VS0_2.junk)) (scAt0_2 m c) (6 * (t.val / 6)) (t.val % 6)
      (by have h1 := t.isLt; have h2 := Nat.div_add_mod t.val 6; omega) :=
  Pipeline.eq_accAt_of_mod (fun n h => (outsAt0 m c n h).2.2) 6 (fun n h => scAt0_2 m c n h (VS0_2.read (Elt F) VS0_2.junk)) (scAt0_2 m c)
    (fun n h hn => by
      have hN := lt_of_lt_of_eq h (show cfg0.N = 6 from N_0)
      by_cases h0 : n % 6 = 0 <;> by_cases h1 : n % 3 = 0 <;> by_cases h2 : ¬(n % 3 = 0)
      all_goals first | (exfalso; omega) | (rw [outsAt0_A m c ⟨n, h⟩ h0 h1 h2]; dsimp only; unfold scAt0_2; rw [dif_pos h0, dif_pos h1, dif_neg h2] <;> try rfl) | (rw [outsAt0_B m c ⟨n, h⟩ h0 h1 h2]; dsimp only; unfold scAt0_2; rw [dif_neg h0, dif_neg h1, dif_pos h2] <;> try rfl) | (rw [outsAt0_C m c ⟨n, h⟩ h0 h1 h2]; dsimp only; unfold scAt0_2; rw [dif_neg h0, dif_pos h1, dif_neg h2] <;> try rfl))
    (fun n h hn => by
      have hN := lt_of_lt_of_eq h (show cfg0.N = 6 from N_0)
      by_cases h0 : (n + 1) % 6 = 0 <;> by_cases h1 : (n + 1) % 3 = 0 <;> by_cases h2 : ¬((n + 1) % 3 = 0)
      all_goals first | (exfalso; omega) | (rw [outsAt0_A m c ⟨n + 1, h⟩ h0 h1 h2]; dsimp only; unfold scAt0_2; rw [dif_pos h0, dif_pos h1, dif_neg h2] <;> try rfl) | (rw [outsAt0_B m c ⟨n + 1, h⟩ h0 h1 h2]; dsimp only; unfold scAt0_2; rw [dif_neg h0, dif_neg h1, dif_pos h2] <;> try rfl) | (rw [outsAt0_C m c ⟨n + 1, h⟩ h0 h1 h2]; dsimp only; unfold scAt0_2; rw [dif_neg h0, dif_pos h1, dif_neg h2] <;> try rfl))
    (by decide) t.val t.isLt _

/-- One run spans the grid (the only reset is at point 0): after point `n` the scratch is the fold from 0 to `n`. -/
theorem soutsAt0_2_sweep (c : Dev nD) (n : ℕ) (hn : n < cfg0.N) :
    (outsAt0 m c n hn).2.2 = Pipeline.accAt (fun n h => scAt0_2 m c n h (VS0_2.read (Elt F) VS0_2.junk)) (scAt0_2 m c) 0 n (by omega) := by
  have e := soutsAt0_2_eq m c ⟨n, hn⟩
  have hN := lt_of_lt_of_eq hn (show cfg0.N = 6 from N_0)
  have hd : n / 6 = 0 := Nat.div_eq_of_lt hN
  have hm : n % 6 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1280x640 .bf16 × Vec F S4x1360x256 .bf16 × Vec F S12x640x256 .bf16 :=
  ((VO0_5.read (Elt F) VO0_5.junk, VS0_1.read (Elt F) VS0_1.junk, VS0_2.read (Elt F) VS0_2.junk) : Vec F S1280x640 .bf16 × Vec F S4x1360x256 .bf16 × Vec F S12x640x256 .bf16)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1280x640 .bf16 × Vec F S4x1360x256 .bf16 × Vec F S12x640x256 .bf16) : Vec F S1280x640 .bf16 × Vec F S4x1360x256 .bf16 × Vec F S12x640x256 .bf16 :=
  if h0 : n % 6 = 0 then
    if h1 : n % 3 = 0 then
      if h2 : ¬(n % 3 = 0) then
        False.elim (by have hN : n < 6 := lt_of_lt_of_eq hb (show cfg0.N = 6 from N_0); omega)
      else
        (out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)))
    else
      False.elim (by have hN : n < 6 := lt_of_lt_of_eq hb (show cfg0.N = 6 from N_0); omega)
  else
    if h1 : n % 3 = 0 then
      if h2 : ¬(n % 3 = 0) then
        False.elim (by have hN : n < 6 := lt_of_lt_of_eq hb (show cfg0.N = 6 from N_0); omega)
      else
        (out0_C_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2, sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2, sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2)
    else
      if h2 : ¬(n % 3 = 0) then
        (out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1 acc.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1 acc.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.1 acc.2.2)
      else
        False.elim (by have hN : n < 6 := lt_of_lt_of_eq hb (show cfg0.N = 6 from N_0); omega)

/-- `stAt0` at a point of case A: that case's contents. -/
theorem stAt0_A (c : Dev nD) (t : Fin cfg0.N) (acc : Vec F S1280x640 .bf16 × Vec F S4x1360x256 .bf16 × Vec F S12x640x256 .bf16) (h0 : t.val % 6 = 0) (h1 : t.val % 3 = 0) (h2 : ¬¬(t.val % 3 = 0)) :
    stAt0 m c t.val t.isLt acc = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) :=
  (dif_pos h0).trans ((dif_pos h1).trans ((dif_neg h2).trans rfl))

/-- `stAt0` at a point of case B: that case's contents, over `acc`. -/
theorem stAt0_B (c : Dev nD) (t : Fin cfg0.N) (acc : Vec F S1280x640 .bf16 × Vec F S4x1360x256 .bf16 × Vec F S12x640x256 .bf16) (h0 : ¬t.val % 6 = 0) (h1 : ¬t.val % 3 = 0) (h2 : ¬(t.val % 3 = 0)) :
    stAt0 m c t.val t.isLt acc = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) acc.2.1 acc.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) acc.2.1 acc.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) acc.2.1 acc.2.2) :=
  (dif_neg h0).trans ((dif_neg h1).trans ((dif_pos h2).trans rfl))

/-- `stAt0` at a point of case C: that case's contents, over `acc`. -/
theorem stAt0_C (c : Dev nD) (t : Fin cfg0.N) (acc : Vec F S1280x640 .bf16 × Vec F S4x1360x256 .bf16 × Vec F S12x640x256 .bf16) (h0 : ¬t.val % 6 = 0) (h1 : t.val % 3 = 0) (h2 : ¬¬(t.val % 3 = 0)) :
    stAt0 m c t.val t.isLt acc = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) acc.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) acc.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) acc.2.2) :=
  (dif_neg h0).trans ((dif_pos h1).trans ((dif_neg h2).trans rfl))

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 6 from N_0)
  have e := Pipeline.eq_accAt_of_mod (fun n h => outsAt0 m c n h) 6 (fun n h => stAt0 m c n h junk0) (stAt0 m c)
    (fun n h _ => by
      have hN := lt_of_lt_of_eq h (show cfg0.N = 6 from N_0)
      obtain rfl : n = 0 := by omega
      exact outsAt0_zero m c h)
    (fun n h _ => outsAt0_succ m c n h)
    (by decide) n hn (by have := Nat.div_add_mod n 6; omega)
  have hd : n / 6 = 0 := Nat.div_eq_of_lt hN
  have hm : n % 6 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 5 -/

/-- The block of the array that holds index `i`, numbered in the order the points write the blocks back (one per point),
    `i`'s place in it, and the point that writes it back. -/
abbrev run5Of (i : S7680x640.Idx) : ℕ := 1 * ((i 0).val / 1280 - 0) + 1 * ((i 1).val / 640 - 0)
set_option backward.proofsInPublic true in
abbrev loc5Of (i : S7680x640.Idx) : S1280x640.Idx := fun a => match a with
  | ⟨0, _⟩ => ⟨(i 0).val % 1280, Nat.mod_lt _ (by decide)⟩
  | ⟨1, _⟩ => ⟨(i 1).val % 640, Nat.mod_lt _ (by decide)⟩
/-- The point whose block holds an index of the result. -/
abbrev pt5Of (i : S7680x640.Idx) : ℕ := run5Of i

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v3) := fun i =>
  if h : pt5Of i < cfg0.N then
    (Pipeline.accAt (fun n h => stAt0 m c n h junk0) (stAt0 m c) 0 (pt5Of i) (by omega)).1 (loc5Of i)
  else V m c (Pipeline.arrRef spec0 5) i

/-- The printed index map, decided over the grid: output window 5's block indices stay in the box, and the block number
    read off them is the point's (`t`). -/
theorem idx_facts5 : ∀ t : Fin cfg0.N, 0 ≤ win0_5.index t (0 : Fin 2) ∧ win0_5.index t (0 : Fin 2) ≤ 5
    ∧ 0 ≤ win0_5.index t (1 : Fin 2) ∧ win0_5.index t (1 : Fin 2) ≤ 0
    ∧ 1 * (win0_5.index t (0 : Fin 2) - 0) + 1 * (win0_5.index t (1 : Fin 2) - 0) = t.val :=
  (by decide +kernel : ∀ t : Fin grid0.N, _)

/-- Every block of the box is SOME flushing point's: `onto5Pt`, the point that writes back the block at place `q` of the box. -/
abbrev onto5Pt (q0 : Fin 6) (q1 : Fin 1) : Fin grid0.N :=
  ⟨1 * q0.val + 1 * q1.val, lt_of_lt_of_eq (by omega) N_0.symm⟩
/-- Every block of the result is some point's. -/
theorem idx_onto5 : ∀ (q0 : Fin 6) (q1 : Fin 1), ∃ t : Fin cfg0.N, (cfg0.win 5).flush t = true ∧ win0_5.index t = ![q0.val + 0, q1.val + 0] :=
  fun q0 q1 => ⟨onto5Pt q0 q1, (by decide +kernel : ∀ (q0 : Fin 6) (q1 : Fin 1), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  obtain ⟨e0, e1, e2⟩ := idx_facts5 t
  funext y
  have hy0 : (y 0).val < 1280 := (y 0).isLt
  have hy1 : (y 1).val < 640 := (y 1).isLt
  have hb0 : (((cfg0.win 5).blk t).view.emb y 0).val = win0_5.index t (0 : Fin 2) * 1280 + 1 * (y 0).val := rfl
  have hb1 : (((cfg0.win 5).blk t).view.emb y 1).val = win0_5.index t (1 : Fin 2) * 640 + 1 * (y 1).val := rfl
  have hr : run5Of (((cfg0.win 5).blk t).view.emb y) = t.val := by
    show 1 * ((((cfg0.win 5).blk t).view.emb y 0).val / 1280 - 0) + 1 * ((((cfg0.win 5).blk t).view.emb y 1).val / 640 - 0) = _
    rw [hb0, hb1]
    rw [show (win0_5.index t (0 : Fin 2) * 1280 + 1 * (y 0).val) / 1280 = win0_5.index t (0 : Fin 2) from by omega]; rw [show (win0_5.index t (1 : Fin 2) * 640 + 1 * (y 1).val) / 640 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 1280 = (y 0).val; rw [hb0]; omega
    | ⟨1, _⟩ => show (((cfg0.win 5).blk t).view.emb y 1).val % 640 = (y 1).val; rw [hb1]; omega
  have hp : pt5Of (((cfg0.win 5).blk t).view.emb y) = t.val := by
    exact hr
  show (Pipeline.accAt (fun n h => stAt0 m c n h junk0) (stAt0 m c) 0 t.val _).1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S7680x640.Idx) :
    i ∈ ((cfg0.win 5).blk t).view.set ↔ ∀ a : Fin 2, win0_5.index t a * S1280x640.size a ≤ (i a).val ∧ (i a).val < win0_5.index t a * S1280x640.size a + S1280x640.size a := by
  show i ∈ ((View.whole main_v3).slice (win0_5.rect t)).set ↔ _
  rw [View.set_slice_whole, Rect.mem_set_unit]
  exact Iff.rfl

/-- THE COVERED INDICES: in some flushing point's block iff inside the box those blocks fill. -/
theorem covered_iff5 (i : S7680x640.Idx) :
    (∃ t : Fin cfg0.N, (cfg0.win 5).flush t = true ∧ i ∈ ((cfg0.win 5).blk t).view.set) ↔ 0 ≤ (i 0).val ∧ (i 0).val < 7680 ∧ 0 ≤ (i 1).val ∧ (i 1).val < 640 := by
  constructor
  · rintro ⟨t, -, hi⟩
    rw [mem_blk5] at hi
    have b0 : win0_5.index t (0 : Fin 2) * 1280 ≤ (i 0).val ∧ (i 0).val < win0_5.index t (0 : Fin 2) * 1280 + 1280 := hi 0
    have b1 : win0_5.index t (1 : Fin 2) * 640 ≤ (i 1).val ∧ (i 1).val < win0_5.index t (1 : Fin 2) * 640 + 640 := hi 1
    obtain ⟨e0, e1, e2⟩ := idx_facts5 t
    omega
  · intro h
    have hi0 : (i 0).val < 7680 := (i 0).isLt
    have hi1 : (i 1).val < 640 := (i 1).isLt
    obtain ⟨t, hft, ht⟩ := idx_onto5 ⟨(i 0).val / 1280 - 0, by omega⟩ ⟨(i 1).val / 640 - 0, by omega⟩
    have q0 : win0_5.index t (0 : Fin 2) = (i 0).val / 1280 - 0 + 0 := congrFun ht 0
    have q1 : win0_5.index t (1 : Fin 2) = (i 1).val / 640 - 0 + 0 := congrFun ht 1
    refine ⟨t, hft, ?_⟩
    rw [mem_blk5]
    intro a
    match a with
    | ⟨0, _⟩ => show win0_5.index t (0 : Fin 2) * 1280 ≤ (i 0).val ∧ (i 0).val < win0_5.index t (0 : Fin 2) * 1280 + 1280; omega
    | ⟨1, _⟩ => show win0_5.index t (1 : Fin 2) * 640 ≤ (i 1).val ∧ (i 1).val < win0_5.index t (1 : Fin 2) * 640 + 640; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 7680 := (i 0).isLt; have h1 : (i 1).val < 640 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v3) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      kept_main_arg0 m r h c,
      kept_main_arg1 m r h c,
      kept_main_arg2 m r h c,
      kept_main_arg3 m r h c,
      kept_main_arg4 m r h c⟩)
    (run_main m ρ)

end Cert.KernelIdeal.Value

end
-- ==== Proof.RowCore.lean ====
/- One row of the image: the bytes of the code words and scale words, their products, and the eight vectors that are stored for the row. -/
module

public import proofs.«01_k».proof.Proof.Gen.KernelIdeal.Skeleton
public import Idealize.ShloMosaic.Lib.Pointwise
public import Idealize.ShloMosaic.Lib.BitcastFour
public import Idealize.ShloMosaic.Lib.BitcastPair
public import Idealize.ShloMosaic.PureOps.Ideal

@[expose] public section

set_option maxRecDepth 16384
noncomputable section
namespace Cert.KernelIdeal.Val
open Cert.KernelIdeal Cert.KernelIdeal.Gen
open Idealize.ShloMosaic Idealize.ShloMosaic.TcCoe

/-- A word of two halves at sixteen bits: row `j` is half `j % 2` of row `j / 2`. -/
theorem half_apply (W : IVec S40x128 32) (h : S40x128.Bitcasts 32 S80x128 16) (j : Fin 80) (l : Fin 128) :
    bitcast S80x128 16 W h (ix2 j l) = (W (ix2 ⟨j.val / 2, by omega⟩ l)).extractLsb' (16 * (j.val % 2)) 16 := by
  rw [bitcast_32_16]
  have hr : (S80x128.row (ix2 j l)) = j.val := rfl
  have : h.srcIdx (ix2 j l) (S80x128.row (ix2 j l) / 2) (fun a ha => by
        have := h.pos_lt (ix2 j l) 0 (by decide) a ha; omega) = (ix2 ⟨j.val / 2, by omega⟩ l : S40x128.Idx) := by
    funext c
    match c with
    | ⟨0, _⟩ => exact Fin.ext (h.srcIdx_row _ _ _ ⟨0, Nat.zero_lt_two⟩ rfl)
    | ⟨1, _⟩ => exact Fin.ext (h.srcIdx_other _ _ _ ⟨1, Nat.one_lt_two⟩ (by show ¬ 1 + 2 = 2; omega))
  rw [this, hr]

/-- A word made of four bytes of a column, read at its byte `k`. -/
theorem byte_of_word {R r n : Nat} (x : (⟨2, ![R, n]⟩ : Shape).Idx → BitVec 8)
    (h : (⟨2, ![R, n]⟩ : Shape).Bitcasts 8 ⟨2, ![r, n]⟩ 32) (a : Fin r) (l : Fin n) (k : Nat) (hk : k < 4) (p : Fin R)
    (hp : p.val = 4 * a.val + k) :
    (bitcast ⟨2, ![r, n]⟩ 32 x h (ix2 a l)).extractLsb' (8 * k) 8 = x (ix2 p l) := by
  apply BitVec.eq_of_getLsbD_eq
  intro i hi
  rw [BitVec.getLsbD_extractLsb']
  have hh := bitcast_8_32_getLsbD_ix2 x h a l (8 * k + i) (by omega) p (by omega)
  have e1 : (ValueIdx.ix2 a l) = (ix2 a l : (⟨2, ![r, n]⟩ : Shape).Idx) := by
    funext c; match c with | ⟨0, _⟩ => rfl | ⟨1, _⟩ => rfl
  have e2 : (ValueIdx.ix2 p l) = (ix2 p l : (⟨2, ![R, n]⟩ : Shape).Idx) := by
    funext c; match c with | ⟨0, _⟩ => rfl | ⟨1, _⟩ => rfl
  rw [e1, e2] at hh
  rw [hh, show (8 * k + i) % 8 = i by omega]
  simp [hi]

/-- The code of byte `2 p` of a word, by mask. -/
theorem even_code (w : BitVec 32) (p : Nat) (hp : p < 2) :
    ((w &&& 16711935#32).extractLsb' (16 * p) 16).setWidth 8 = w.extractLsb' (8 * (2 * p)) 8 := by
  apply BitVec.eq_of_getLsbD_eq
  intro i hi
  interval_cases p <;> interval_cases i <;> simp [BitVec.getLsbD_extractLsb', BitVec.getLsbD_setWidth]

/-- The code of byte `2 p + 1` of a word, by shift and mask. -/
theorem odd_code (w : BitVec 32) (p : Nat) (hp : p < 2) :
    (((w >>> 8) &&& 16711935#32).extractLsb' (16 * p) 16).setWidth 8 = w.extractLsb' (8 * (2 * p + 1)) 8 := by
  apply BitVec.eq_of_getLsbD_eq
  intro i hi
  interval_cases p <;> interval_cases i <;> simp [BitVec.getLsbD_extractLsb', BitVec.getLsbD_setWidth]

/-- The exponent bits of byte `2 p` of a word, by shift and mask. -/
theorem even_scale (w : BitVec 32) (p : Nat) (hp : p < 2) :
    ((w <<< 7) &&& 2139127680#32).extractLsb' (16 * p) 16 = (w.extractLsb' (8 * (2 * p)) 8).setWidth 16 <<< 7 := by
  apply BitVec.eq_of_getLsbD_eq
  intro i hi
  interval_cases p <;> interval_cases i <;> simp [BitVec.getLsbD_extractLsb', BitVec.getLsbD_setWidth]

/-- The exponent bits of byte `2 p + 1` of a word, by shift and mask. -/
theorem odd_scale (w : BitVec 32) (p : Nat) (hp : p < 2) :
    ((w >>> 1) &&& 2139127680#32).extractLsb' (16 * p) 16 = (w.extractLsb' (8 * (2 * p + 1)) 8).setWidth 16 <<< 7 := by
  apply BitVec.eq_of_getLsbD_eq
  intro i hi
  interval_cases p <;> interval_cases i <;> simp [BitVec.getLsbD_extractLsb', BitVec.getLsbD_setWidth]

/-- The value of a code under a scale byte: the code's value times the scale's, both over the extended reals. -/
def cv (x s : BitVec 8) : EReal := Ideal.ofBits .fp8e4m3 x * Ideal.ofBits .bf16 (s.setWidth 16 <<< 7)

variable {F : FTy → Type} [FloatOps F]

/-- The codes of the words `W`: the even bytes' rows, then the odd bytes'. -/
def codesV (W : IVec S40x128 32) : FVec F S160x128 .bf16 :=
  extf .bf16 (bitcastToFloat .fp8e4m3 (trunci 8 (concatenate S160x128 0
    [⟨S80x128, bitcast S80x128 16 (andi W (broadcast S40x128 16711935#32)) bitcasts_S40x128_w32_S80x128_w16⟩,
     ⟨S80x128, bitcast S80x128 16 (andi (shrui W (broadcast S40x128 8#32)) (broadcast S40x128 16711935#32)) bitcasts_S40x128_w32_S80x128_w16⟩]
    concatenates_S80x128_S80x128_S160x128_d0) natLt_8_16)) bitsLt_fp8e4m3_bf16

/-- The even pixels' products of code words `W` and gathered scale words `S`. -/
def evenV (W S : IVec S40x128 32) : FVec F S80x128 .bf16 :=
  mulf (extractStridedSlice S80x128 ![0, 0] (codesV (F := F) W) slices_S160x128_o0_0_S80x128)
    (bitcastToFloat .bf16 (bitcast S80x128 16 (andi (shli S (broadcast S40x128 7#32)) (broadcast S40x128 2139127680#32)) bitcasts_S40x128_w32_S80x128_w16))

/-- The odd pixels' products. -/
def oddV (W S : IVec S40x128 32) : FVec F S80x128 .bf16 :=
  mulf (extractStridedSlice S80x128 ![80, 0] (codesV (F := F) W) slices_S160x128_o80_0_S80x128)
    (bitcastToFloat .bf16 (bitcast S80x128 16 (andi (shrui S (broadcast S40x128 1#32)) (broadcast S40x128 2139127680#32)) bitcasts_S40x128_w32_S80x128_w16))

/-- An even pixel's product, of the bytes of the code word and of the scale word. -/
theorem evenV_apply (W S : IVec S40x128 32) (j : Fin 80) (l : Fin 128) :
    evenV (F := Ideal) W S (ix2 j l)
      = cv ((W (ix2 ⟨j.val / 2, by omega⟩ l)).extractLsb' (8 * (2 * (j.val % 2))) 8)
          ((S (ix2 ⟨j.val / 2, by omega⟩ l)).extractLsb' (8 * (2 * (j.val % 2))) 8) := by
  have h2 : j.val % 2 < 2 := Nat.mod_lt _ (by decide)
  rw [cv, ← even_code _ _ h2, ← even_scale _ _ h2]
  unfold evenV codesV
  pointwise
  rw [half_apply, half_apply]
  rfl

/-- An odd pixel's product, of the bytes of the code word and of the scale word. -/
theorem oddV_apply (W S : IVec S40x128 32) (j : Fin 80) (l : Fin 128) :
    oddV (F := Ideal) W S (ix2 j l)
      = cv ((W (ix2 ⟨j.val / 2, by omega⟩ l)).extractLsb' (8 * (2 * (j.val % 2) + 1)) 8)
          ((S (ix2 ⟨j.val / 2, by omega⟩ l)).extractLsb' (8 * (2 * (j.val % 2) + 1)) 8) := by
  have h2 : j.val % 2 < 2 := Nat.mod_lt _ (by decide)
  rw [cv, ← odd_code _ _ h2, ← odd_scale _ _ h2]
  unfold oddV codesV
  pointwise
  rw [half_apply, half_apply]
  rfl

/-- The lane's number over 32, as the kernel computes it. -/
abbrev laneDiv : IVec S40x128 32 := k0_pay101

/-- A lane's number over 32. -/
theorem laneDiv_apply (r : Fin 40) (l : Fin 128) : laneDiv (ix2 r l) = BitVec.ofNat 32 (l.val / 32) := by
  unfold laneDiv k0_pay101
  pointwise
  revert l
  decide +kernel

/-- The gathered scale words of group `g` (added to the lane's block number). -/
def gath (Sw : IVec S40x128 32) (g : BitVec 32) : IVec S40x128 32 :=
  have v57 : IVec S40x128 32 := broadcast S40x128 g
  have v58 : IVec S40x128 32 := addi laneDiv v57
  have v59 : IVec S40x128 32 := broadcast S40x128 0#32
  have v60 : IVec S40x128 1 := cmpi .slt v58 v59
  have v61 : IVec S40x128 32 := broadcast S40x128 128#32
  have v62 : IVec S40x128 32 := addi v58 v61
  have v63 : IVec S40x128 32 := select v60 v62 v58
  have v64 : IVec S40x128x1 32 := shapeCast S40x128x1 v63 shapeCasts_S40x128_S40x128x1
  have v65 : IVec S40x128 32 := shapeCast S40x128 v64 shapeCasts_S40x128x1_S40x128
  dynamicGather 1 Sw v65

/-- The index gathered at a lane: its number over 32, plus the group. -/
theorem gidx (g : Fin 9) : ∀ l : Fin 128, (Scalar.select (IntOp.cmpi .slt (IntOp.addi (BitVec.ofNat 32 (l.val / 32)) (BitVec.ofNat 32 g.val)) 0#32)
    (IntOp.addi (IntOp.addi (BitVec.ofNat 32 (l.val / 32)) (BitVec.ofNat 32 g.val)) 128#32)
    (IntOp.addi (BitVec.ofNat 32 (l.val / 32)) (BitVec.ofNat 32 g.val))).toNat = l.val / 32 + g.val := by
  revert g; decide +kernel

/-- A gathered word is the scale word of the lane's block. -/
theorem gath_apply (Sw : IVec S40x128 32) (g : Fin 9) (w : BitVec 32) (hw : w = BitVec.ofNat 32 g.val) (r : Fin 40) (l : Fin 128) :
    gath Sw w (ix2 r l) = Sw (ix2 r ⟨l.val / 32 + g.val, by omega⟩) := by
  subst hw
  have h := gidx g l
  unfold gath
  rw [shapeCast_shapeCast]
  pointwise
  simp only [laneDiv_apply, h, Nat.mod_eq_of_lt (show l.val / 32 + g.val < 128 by omega)]

/-- The words of a row's codes. -/
abbrev xw (x : Vec F S160x320 .i8) : IVec S40x320 32 := k0_pay98 x
/-- The words of a row's scales, padded with zero words. -/
abbrev sw (s : Vec F S160x10 .i8) : IVec S40x128 32 := k0_pay100 s

/-- The three groups of 128 channels of a row's code words; the third has 64 channels and zeros. -/
def grp0 (W : IVec S40x320 32) : IVec S40x128 32 := extractStridedSlice S40x128 ![0, 0] W slices_S40x320_o0_0_S40x128
/-- The second group of 128 channels. -/
def grp1 (W : IVec S40x320 32) : IVec S40x128 32 := extractStridedSlice S40x128 ![0, 128] W slices_S40x320_o0_128_S40x128
/-- The third group: 64 channels, then zeros. -/
def grp2 (W : IVec S40x320 32) : IVec S40x128 32 :=
  concatenate S40x128 1 [⟨S40x64, extractStridedSlice S40x64 ![0, 256] W slices_S40x320_o0_256_S40x64⟩, ⟨S40x64, broadcast S40x64 0#32⟩]
    concatenates_S40x64_S40x64_S40x128_d1

/-- A byte of a code word is a pixel's code. -/
theorem xw_byte (x : Vec F S160x320 .i8) (r : Fin 40) (ch : Fin 320) (k : Nat) (hk : k < 4) (p : Fin 160) (hp : p.val = 4 * r.val + k) :
    (xw x (ix2 r ch)).extractLsb' (8 * k) 8 = x (ix2 p ch) := by
  unfold xw k0_pay98
  rw [shapeCast_self]
  exact byte_of_word x _ r ch k hk p hp

/-- A byte of a scale word is a pixel's scale. -/
theorem sw_byte (x : Vec F S160x10 .i8) (r : Fin 40) (b : Fin 128) (hb : b.val < 10) (k : Nat) (hk : k < 4) (p : Fin 160) (hp : p.val = 4 * r.val + k) :
    (sw x (ix2 r b)).extractLsb' (8 * k) 8 = x (ix2 p ⟨b.val, hb⟩) := by
  unfold sw k0_pay100 k0_pay99
  rw [shapeCast_self]
  pointwise
  rw [dif_pos hb]
  exact byte_of_word x _ r _ k hk p hp

variable (x : Vec Ideal S160x320 .i8) (s : Vec Ideal S160x10 .i8)

/-- A product of the row: pixel `p`, channel `ch`. -/
def px (p : Fin 160) (ch : Fin 320) : EReal := cv (x (ix2 p ch)) (s (ix2 p ⟨ch.val / 32, by omega⟩))

/-- The first group read at a lane. -/
theorem grp0_apply (W : IVec S40x320 32) (r : Fin 40) (l : Fin 128) : grp0 W (ix2 r l) = W (ix2 r ⟨l.val, by omega⟩) := by
  unfold grp0; pointwise
/-- The second group read at a lane. -/
theorem grp1_apply (W : IVec S40x320 32) (r : Fin 40) (l : Fin 128) : grp1 W (ix2 r l) = W (ix2 r ⟨128 + l.val, by omega⟩) := by
  unfold grp1; pointwise
/-- The third group read at one of its first 64 lanes. -/
theorem grp2_apply (W : IVec S40x320 32) (r : Fin 40) (l : Fin 128) (h : l.val < 64) : grp2 W (ix2 r l) = W (ix2 r ⟨256 + l.val, by omega⟩) := by
  unfold grp2; pointwise; rw [dif_pos h]

/-- The even pixels' products of channel group 0 are the row's. -/
theorem even0 (j : Fin 80) (l : Fin 128) :
    evenV (F := Ideal) (grp0 (xw x)) (gath (sw s) 0#32) (ix2 j l) = px x s ⟨2 * j.val, by omega⟩ ⟨l.val, by omega⟩ := by
  rw [evenV_apply, grp0_apply, gath_apply _ (0 : Fin 9) 0#32 rfl, xw_byte x _ _ _ (by omega) ⟨2 * j.val, by omega⟩ (by dsimp only; omega),
    sw_byte s _ _ (by dsimp only; omega) _ (by omega) ⟨2 * j.val, by omega⟩ (by dsimp only; omega)]
  rfl
/-- The odd pixels' products of channel group 0 are the row's. -/
theorem odd0 (j : Fin 80) (l : Fin 128) :
    oddV (F := Ideal) (grp0 (xw x)) (gath (sw s) 0#32) (ix2 j l) = px x s ⟨2 * j.val + 1, by omega⟩ ⟨l.val, by omega⟩ := by
  rw [oddV_apply, grp0_apply, gath_apply _ (0 : Fin 9) 0#32 rfl, xw_byte x _ _ _ (by omega) ⟨2 * j.val + 1, by omega⟩ (by dsimp only; omega),
    sw_byte s _ _ (by dsimp only; omega) _ (by omega) ⟨2 * j.val + 1, by omega⟩ (by dsimp only; omega)]
  rfl
/-- The even pixels' products of channel group 1 are the row's. -/
theorem even1 (j : Fin 80) (l : Fin 128) :
    evenV (F := Ideal) (grp1 (xw x)) (gath (sw s) 4#32) (ix2 j l) = px x s ⟨2 * j.val, by omega⟩ ⟨128 + l.val, by omega⟩ := by
  rw [evenV_apply, grp1_apply, gath_apply _ (4 : Fin 9) 4#32 rfl, xw_byte x _ _ _ (by omega) ⟨2 * j.val, by omega⟩ (by dsimp only; omega),
    sw_byte s _ _ (by dsimp only; omega) _ (by omega) ⟨2 * j.val, by omega⟩ (by dsimp only; omega)]
  unfold px; congr 4; dsimp only [Fin.val_ofNat]; omega
/-- The odd pixels' products of channel group 1 are the row's. -/
theorem odd1 (j : Fin 80) (l : Fin 128) :
    oddV (F := Ideal) (grp1 (xw x)) (gath (sw s) 4#32) (ix2 j l) = px x s ⟨2 * j.val + 1, by omega⟩ ⟨128 + l.val, by omega⟩ := by
  rw [oddV_apply, grp1_apply, gath_apply _ (4 : Fin 9) 4#32 rfl, xw_byte x _ _ _ (by omega) ⟨2 * j.val + 1, by omega⟩ (by dsimp only; omega),
    sw_byte s _ _ (by dsimp only; omega) _ (by omega) ⟨2 * j.val + 1, by omega⟩ (by dsimp only; omega)]
  unfold px; congr 4; dsimp only [Fin.val_ofNat]; omega
/-- The even pixels' products of channel group 2 are the row's. -/
theorem even2 (j : Fin 80) (l : Fin 128) (h : l.val < 64) :
    evenV (F := Ideal) (grp2 (xw x)) (gath (sw s) 8#32) (ix2 j l) = px x s ⟨2 * j.val, by omega⟩ ⟨256 + l.val, by omega⟩ := by
  rw [evenV_apply, grp2_apply _ _ _ h, gath_apply _ (8 : Fin 9) 8#32 rfl, xw_byte x _ _ _ (by omega) ⟨2 * j.val, by omega⟩ (by dsimp only; omega),
    sw_byte s _ _ (by dsimp only; omega) _ (by omega) ⟨2 * j.val, by omega⟩ (by dsimp only; omega)]
  unfold px; congr 4; dsimp only [Fin.val_ofNat]; omega
/-- The odd pixels' products of channel group 2 are the row's. -/
theorem odd2 (j : Fin 80) (l : Fin 128) (h : l.val < 64) :
    oddV (F := Ideal) (grp2 (xw x)) (gath (sw s) 8#32) (ix2 j l) = px x s ⟨2 * j.val + 1, by omega⟩ ⟨256 + l.val, by omega⟩ := by
  rw [oddV_apply, grp2_apply _ _ _ h, gath_apply _ (8 : Fin 9) 8#32 rfl, xw_byte x _ _ _ (by omega) ⟨2 * j.val + 1, by omega⟩ (by dsimp only; omega),
    sw_byte s _ _ (by dsimp only; omega) _ (by omega) ⟨2 * j.val + 1, by omega⟩ (by dsimp only; omega)]
  unfold px; congr 4; dsimp only [Fin.val_ofNat]; omega

/-- Rows moved down by one, a zero row first. -/
def shV (v : FVec F S80x128 .bf16) : FVec F S80x128 .bf16 :=
  interleaveRows S80x128
    (concatenate S40x128 0
      [⟨S1x128, rowsOfParity 1 S1x128 (broadcast S2x128 (Scalar.ofBits .bf16 0x0000#16 : F .bf16)) bitcasts_S2x128_w16_S1x128_w32⟩,
       ⟨S39x128, extractStridedSlice S39x128 ![0, 0] (rowsOfParity 1 S40x128 v bitcasts_S80x128_w16_S40x128_w32) slices_S40x128_o0_0_S39x128⟩]
      concatenates_S1x128_S39x128_S40x128_d0)
    (rowsOfParity 0 S40x128 v bitcasts_S80x128_w16_S40x128_w32) bitcasts_S80x128_w16_S40x128_w32

/-- The first 64 lanes of `a`, then the first 64 lanes of `b`. -/
def mrgV (a b : FVec F S80x128 .bf16) : FVec F S80x128 .bf16 :=
  interleaveRows S80x128
    (select (cmpi .slt (iota .tc S40x128 32 [1] iota_S40x128_d1_w32) (broadcast S40x128 64#32)) (rowsOfParity 0 S40x128 a bitcasts_S80x128_w16_S40x128_w32)
      (dynamicRotate 1 64#32 none (rowsOfParity 0 S40x128 b bitcasts_S80x128_w16_S40x128_w32) rotates_S40x128_d1))
    (select (cmpi .slt (iota .tc S40x128 32 [1] iota_S40x128_d1_w32) (broadcast S40x128 64#32)) (rowsOfParity 1 S40x128 a bitcasts_S80x128_w16_S40x128_w32)
      (dynamicRotate 1 64#32 none (rowsOfParity 1 S40x128 b bitcasts_S80x128_w16_S40x128_w32) rotates_S40x128_d1))
    bitcasts_S80x128_w16_S40x128_w32

/-- Rows interleaved: an even row is of the first, an odd row of the second. -/
theorem interleave_apply {α : Type} (lo hi : S40x128.Idx → α) (h : S80x128.Bitcasts 16 S40x128 32) (j : Fin 80) (l : Fin 128) :
    interleaveRows S80x128 lo hi h (ix2 j l)
      = if j.val % 2 = 0 then lo (ix2 ⟨j.val / 2, by omega⟩ l) else hi (ix2 ⟨j.val / 2, by omega⟩ l) := by
  unfold interleaveRows
  have hr : (S80x128.row (ix2 j l)) = j.val := rfl
  rw [hr]
  have : ∀ f : S40x128.Idx, (f 0).val = j.val / 2 → (f 1).val = l.val → f = ix2 ⟨j.val / 2, by omega⟩ l := by
    intro f h0 h1
    funext c
    match c with
    | ⟨0, _⟩ => exact Fin.ext h0
    | ⟨1, _⟩ => exact Fin.ext h1
  split <;> exact congrArg _ (this _ rfl rfl)

/-- Two indices with equal coordinates are equal. -/
theorem ix2_val {n m : Nat} {a a' : Fin n} {b b' : Fin m} (h : a.val = a'.val) (h' : b.val = b'.val) : ix2 a b = ix2 a' b' := by
  rw [Fin.ext h, Fin.ext h']

/-- Rows moved down by one, read at a row. -/
theorem shV_apply (v : FVec Ideal S80x128 .bf16) (j : Fin 80) (l : Fin 128) :
    shV v (ix2 j l) = if h : j.val = 0 then (0 : EReal) else v (ix2 ⟨j.val - 1, by omega⟩ l) := by
  unfold shV
  rw [interleave_apply]
  pointwise
  by_cases h0 : j.val = 0
  · rw [if_pos (by omega), dif_pos (by omega), dif_pos h0]
  · rw [dif_neg h0]
    by_cases h1 : j.val % 2 = 0
    · rw [if_pos h1, dif_neg (by omega)]
      exact congrArg v (ix2_val (by dsimp only; omega) rfl)
    · rw [if_neg h1]
      exact congrArg v (ix2_val (by dsimp only; omega) rfl)

/-- The comparison of a lane with 64. -/
theorem lane_lt : ∀ l : Fin 128, IntOp.cmpi .slt (BitVec.ofNat 32 l.val) 64#32 = if l.val < 64 then 1#1 else 0#1 := by decide +kernel

/-- The merged halves, read at a lane. -/
theorem mrgV_apply (a b : FVec Ideal S80x128 .bf16) (j : Fin 80) (l : Fin 128) :
    mrgV a b (ix2 j l) = if h : l.val < 64 then a (ix2 j l) else b (ix2 j ⟨l.val - 64, by omega⟩) := by
  unfold mrgV
  rw [interleave_apply]
  pointwise
  rw [lane_lt l]
  by_cases h : l.val < 64
  · rw [if_pos h, dif_pos h]
    by_cases h1 : j.val % 2 = 0
    · rw [if_pos h1]; exact congrArg a (ix2_val (by dsimp only; omega) rfl)
    · rw [if_neg h1]; exact congrArg a (ix2_val (by dsimp only; omega) rfl)
  · rw [if_neg h, dif_neg h]
    by_cases h1 : j.val % 2 = 0
    · rw [if_pos h1]; exact congrArg b (ix2_val (by dsimp only; omega) (by dsimp only; omega))
    · rw [if_neg h1]; exact congrArg b (ix2_val (by dsimp only; omega) (by dsimp only; omega))

/-- What row products `P` (pixel, channel) leave in slot `s`, column `j`, lane `l`. -/
def slotV (P : ℕ → ℕ → EReal) (s j l : ℕ) : EReal :=
  if s = 0 then P (2 * j) l
  else if s = 1 then P (2 * j + 1) l
  else if s = 2 then (if j = 0 then 0 else P (2 * j - 1) l)
  else if l < 64 then P (2 * j) (256 + l)
  else if l < 128 then P (2 * j + 1) (192 + l)
  else if l < 192 then (if j = 0 then 0 else P (2 * j - 1) (128 + l))
  else 0

/-- The eight stores of one row. -/
def store00 (x : Vec F S160x320 .i8) (s : Vec F S160x10 .i8) : FVec F S1x80x128 .bf16 :=
  shapeCast S1x80x128 (evenV (grp0 (xw x)) (gath (sw s) 0#32)) shapeCasts_S80x128_S1x80x128
/-- The store of slot 1 (the odd columns), first 128 lanes. -/
def store10 (x : Vec F S160x320 .i8) (s : Vec F S160x10 .i8) : FVec F S1x80x128 .bf16 :=
  shapeCast S1x80x128 (oddV (grp0 (xw x)) (gath (sw s) 0#32)) shapeCasts_S80x128_S1x80x128
/-- The store of slot 2 (the odd columns moved down by one), first 128 lanes. -/
def store20 (x : Vec F S160x320 .i8) (s : Vec F S160x10 .i8) : FVec F S1x80x128 .bf16 :=
  shapeCast S1x80x128 (shV (oddV (grp0 (xw x)) (gath (sw s) 0#32))) shapeCasts_S80x128_S1x80x128
/-- The store of slot 0 (the even columns), second 128 lanes. -/
def store01 (x : Vec F S160x320 .i8) (s : Vec F S160x10 .i8) : FVec F S1x80x128 .bf16 :=
  shapeCast S1x80x128 (evenV (grp1 (xw x)) (gath (sw s) 4#32)) shapeCasts_S80x128_S1x80x128
/-- The store of slot 1 (the odd columns), second 128 lanes. -/
def store11 (x : Vec F S160x320 .i8) (s : Vec F S160x10 .i8) : FVec F S1x80x128 .bf16 :=
  shapeCast S1x80x128 (oddV (grp1 (xw x)) (gath (sw s) 4#32)) shapeCasts_S80x128_S1x80x128
/-- The store of slot 2 (the odd columns moved down by one), second 128 lanes. -/
def store21 (x : Vec F S160x320 .i8) (s : Vec F S160x10 .i8) : FVec F S1x80x128 .bf16 :=
  shapeCast S1x80x128 (shV (oddV (grp1 (xw x)) (gath (sw s) 4#32))) shapeCasts_S80x128_S1x80x128
/-- The store of slot 3 (the last 64 channels of the three), first 128 lanes. -/
def store30 (x : Vec F S160x320 .i8) (s : Vec F S160x10 .i8) : FVec F S1x80x128 .bf16 :=
  shapeCast S1x80x128 (mrgV (evenV (grp2 (xw x)) (gath (sw s) 8#32)) (oddV (grp2 (xw x)) (gath (sw s) 8#32))) shapeCasts_S80x128_S1x80x128
/-- The store of slot 3 (the last 64 channels of the three), second 128 lanes. -/
def store31 (x : Vec F S160x320 .i8) (s : Vec F S160x10 .i8) : FVec F S1x80x128 .bf16 :=
  shapeCast S1x80x128 (mrgV (shV (oddV (grp2 (xw x)) (gath (sw s) 8#32))) (broadcast S80x128 (Scalar.ofBits .bf16 0x0000#16))) shapeCasts_S80x128_S1x80x128

section
variable (P : ℕ → ℕ → EReal) (hP : ∀ (p : Fin 160) (ch : Fin 320), px x s p ch = P p.val ch.val)
include hP

/-- What is stored in slot 0 (the even columns), first 128 lanes. -/
theorem store00_apply (z : Fin 1) (j : Fin 80) (l : Fin 128) : store00 (F := Ideal) x s (ix3 z j l) = slotV P 0 j l := by
  unfold store00; pointwise; rw [even0, hP]; rfl
/-- What is stored in slot 1 (the odd columns), first 128 lanes. -/
theorem store10_apply (z : Fin 1) (j : Fin 80) (l : Fin 128) : store10 (F := Ideal) x s (ix3 z j l) = slotV P 1 j l := by
  unfold store10; pointwise; rw [odd0, hP]; rfl
/-- What is stored in slot 2 (the odd columns moved down by one), first 128 lanes. -/
theorem store20_apply (z : Fin 1) (j : Fin 80) (l : Fin 128) : store20 (F := Ideal) x s (ix3 z j l) = slotV P 2 j l := by
  unfold store20; pointwise; rw [shV_apply]; unfold slotV
  by_cases h : j.val = 0
  · rw [dif_pos h]; simp [h]
  · rw [dif_neg h, odd0, hP]; simp [h]; congr 1; omega
/-- What is stored in slot 0 (the even columns), second 128 lanes. -/
theorem store01_apply (z : Fin 1) (j : Fin 80) (l : Fin 128) : store01 (F := Ideal) x s (ix3 z j l) = slotV P 0 j (128 + l) := by
  unfold store01; pointwise; rw [even1, hP]; rfl
/-- What is stored in slot 1 (the odd columns), second 128 lanes. -/
theorem store11_apply (z : Fin 1) (j : Fin 80) (l : Fin 128) : store11 (F := Ideal) x s (ix3 z j l) = slotV P 1 j (128 + l) := by
  unfold store11; pointwise; rw [odd1, hP]; rfl
/-- What is stored in slot 2 (the odd columns moved down by one), second 128 lanes. -/
theorem store21_apply (z : Fin 1) (j : Fin 80) (l : Fin 128) : store21 (F := Ideal) x s (ix3 z j l) = slotV P 2 j (128 + l) := by
  unfold store21; pointwise; rw [shV_apply]; unfold slotV
  by_cases h : j.val = 0
  · rw [dif_pos h]; simp [h]
  · rw [dif_neg h, odd1, hP]; simp [h]; congr 1; omega
/-- What is stored in slot 3 (the last 64 channels of the three), first 128 lanes. -/
theorem store30_apply (z : Fin 1) (j : Fin 80) (l : Fin 128) : store30 (F := Ideal) x s (ix3 z j l) = slotV P 3 j l := by
  unfold store30; pointwise; rw [mrgV_apply]; unfold slotV
  by_cases h : l.val < 64
  · rw [dif_pos h, even2 _ _ _ _ h, hP]; simp [h]
  · rw [dif_neg h, odd2 _ _ _ _ (by dsimp only; omega), hP]; simp [h]; congr 1; omega
/-- What is stored in slot 3 (the last 64 channels of the three), second 128 lanes. -/
theorem store31_apply (z : Fin 1) (j : Fin 80) (l : Fin 128) : store31 (F := Ideal) x s (ix3 z j l) = slotV P 3 j (128 + l) := by
  unfold store31; pointwise; rw [mrgV_apply]; unfold slotV
  have h1 : ¬ (128 + l.val < 64) := by omega
  have h2 : ¬ (128 + l.val < 128) := by omega
  by_cases h : l.val < 64
  · have h3 : (128 + l.val < 192) := by omega
    rw [dif_pos h, shV_apply]
    by_cases h0 : j.val = 0
    · rw [dif_pos h0]; simp [h1, h2, h3, h0]
    · rw [dif_neg h0, odd2 _ _ _ _ h, hP]; simp [h1, h2, h3, h0]; congr 1 <;> omega
  · have h3 : ¬ (128 + l.val < 192) := by omega
    rw [dif_neg h]; simp [h1, h2, h3]; pointwise
end

end Cert.KernelIdeal.Val
end
-- ==== Proof.RowEq.lean ====
/- The terms that the two rows of a trip store are the eight stores of a row. -/
module

public import proofs.«01_k».proof.Proof.RowCore

@[expose] public section

set_option maxRecDepth 16384
noncomputable section
namespace Cert.KernelIdeal.Val
open Cert.KernelIdeal Cert.KernelIdeal.Gen
open Idealize.ShloMosaic Idealize.ShloMosaic.TcCoe
variable {F : FTy → Type} [FloatOps F] (x : Vec F S160x320 .i8) (s : Vec F S160x10 .i8)

/-- The even row's stored term is the store of slot 3, second lanes. -/
theorem e31 : k0_pay125 (k0_pay122 (F := F) (xw x) (k0_pay118 (k0_pay99 s)) k0_pay119 0#32) = store31 x s := rfl
/-- The even row's stored term is the store of slot 3, first lanes. -/
theorem e30 : k0_pay124 (k0_pay123 (F := F) (xw x) (k0_pay118 (k0_pay99 s)) k0_pay119 0#32) = store30 x s := rfl
/-- The even row's stored term is the store of slot 2, second lanes. -/
theorem e21 : k0_pay117 (k0_pay113 (F := F) (xw x) (k0_pay108 (k0_pay99 s)) k0_pay109 k0_pay110) (k0_pay116 (xw x) (k0_pay108 (k0_pay99 s)) k0_pay109 k0_pay110) = store21 x s := rfl
/-- The even row's stored term is the store of slot 1, second lanes. -/
theorem e11 : k0_pay115 (F := F) (xw x) (k0_pay108 (k0_pay99 s)) k0_pay109 k0_pay110 = store11 x s := rfl
/-- The even row's stored term is the store of slot 0, second lanes. -/
theorem e01 : k0_pay114 (F := F) (xw x) (k0_pay108 (k0_pay99 s)) k0_pay109 k0_pay110 = store01 x s := rfl
/-- The even row's stored term is the store of slot 2, first lanes. -/
theorem e20 : k0_pay107 (k0_pay104 (F := F) (xw x) (sw s) k0_pay101) = store20 x s := rfl
/-- The even row's stored term is the store of slot 1, first lanes. -/
theorem e10 : k0_pay106 (F := F) (xw x) (sw s) k0_pay101 = store10 x s := rfl
/-- The even row's stored term is the store of slot 0, first lanes. -/
theorem e00 : k0_pay105 (F := F) (xw x) (sw s) k0_pay101 = store00 x s := rfl

/-- The odd row's stored term is the store of slot 3, second lanes. -/
theorem o31 : k0_pay5 (k0_pay152 (F := F) (k0_pay146 (k0_pay127 s)) (k0_pay147 (k0_pay126 x)) (k0_pay148 (k0_pay126 x))) k0_pay153
   (k0_pay154 (k0_pay146 (k0_pay127 s)) (k0_pay147 (k0_pay126 x)) (k0_pay148 (k0_pay126 x))) = store31 x s := rfl
/-- The odd row's stored term is the store of slot 3, first lanes. -/
theorem o30 : k0_pay151 (F := F) (k0_pay146 (k0_pay127 s)) (k0_pay147 (k0_pay126 x)) (k0_pay148 (k0_pay126 x)) = store30 x s := rfl
/-- The odd row's stored term is the store of slot 2, second lanes. -/
theorem o21 : k0_pay145 (k0_pay144 (F := F) (k0_pay137 (k0_pay127 s)) (k0_pay138 (k0_pay126 x)) (k0_pay139 (k0_pay126 x))) = store21 x s := rfl
/-- The odd row's stored term is the store of slot 1, second lanes. -/
theorem o11 : k0_pay143 (F := F) (k0_pay137 (k0_pay127 s)) (k0_pay138 (k0_pay126 x)) (k0_pay139 (k0_pay126 x)) = store11 x s := rfl
/-- The odd row's stored term is the store of slot 0, second lanes. -/
theorem o01 : k0_pay142 (F := F) (k0_pay137 (k0_pay127 s)) (k0_pay138 (k0_pay126 x)) (k0_pay139 (k0_pay126 x)) = store01 x s := rfl
/-- The odd row's stored term is the store of slot 2, first lanes. -/
theorem o20 : k0_pay136 (k0_pay135 (F := F) (k0_pay128 s) (k0_pay129 x) k0_pay130) = store20 x s := rfl
/-- The odd row's stored term is the store of slot 1, first lanes. -/
theorem o10 : k0_pay134 (F := F) (k0_pay128 s) (k0_pay129 x) k0_pay130 = store10 x s := rfl
/-- The odd row's stored term is the store of slot 0, first lanes. -/
theorem o00 : k0_pay133 (F := F) (k0_pay128 s) (k0_pay129 x) k0_pay130 = store00 x s := rfl

end Cert.KernelIdeal.Val
end
-- ==== Proof.RowPieces.lean ====
/- The stores of one trip of the first loop agree with the two row buffers' contents. -/
module

public import proofs.«01_k».proof.Proof.RowCore
public import proofs.«01_k».proof.Proof.RowEq
public import proofs.«01_k».proof.Proof.KernelValue

@[expose] public section

set_option maxRecDepth 16384
noncomputable section
namespace Cert.KernelIdeal.Val
open Cert.KernelIdeal Cert.KernelIdeal.Gen
open Idealize.ShloMosaic Idealize.ShloMosaic.TcCoe Idealize.ShloMosaic.Tactic
open Idealize.SL.Sem

/-- The product of pixel `p` and channel `ch` of a step's blocks of codes and scales. -/
def P0 (x0 : Vec Ideal S5120x320 .i8) (x1 : Vec Ideal S5120x10 .i8) (p ch : ℕ) : EReal :=
  if h : p < 5120 ∧ ch < 320 then cv (x0 (ix2 ⟨p, h.1⟩ ⟨ch, h.2⟩)) (x1 (ix2 ⟨p, h.1⟩ ⟨ch / 32, by omega⟩)) else 0

/-- The even rows' buffer. -/
def EV (x0 : Vec Ideal S5120x320 .i8) (x1 : Vec Ideal S5120x10 .i8) : Vec Ideal S4x1280x256 .bf16 :=
  fun y => slotV (fun p ch => P0 x0 x1 (320 * ((y 1).val / 80) + p) ch) (y 0).val ((y 1).val % 80) (y 2).val

/-- The odd rows' buffer, the first 80 columns of it at `top`. -/
def OD (x0 : Vec Ideal S5120x320 .i8) (x1 : Vec Ideal S5120x10 .i8) (top : Vec Ideal S4x80x256 .bf16) : Vec Ideal S4x1360x256 .bf16 :=
  fun y => if h : (y 1).val < 80 then top (ix3 (y 0) ⟨(y 1).val, h⟩ (y 2))
    else slotV (fun p ch => P0 x0 x1 (320 * ((y 1).val / 80 - 1) + 160 + p) ch) (y 0).val ((y 1).val % 80) (y 2).val

/-- A load of 160 rows of the codes. -/
theorem readX (r : Memref sig .tc .vmem S5120x320 .i8) (hr : r.IsWhole) (x0 : Vec Ideal S5120x320 .i8) (off : Fin 2 → ℕ)
    (inb : ∀ a, off a + S160x320.size a ≤ S5120x320.size a) (o : ℕ) (h0 : off 0 = o) (h1 : off 1 = 0) (p : Fin 160) (ch : Fin 320) (hb : o + p.val < 5120) :
    View.readAt (Elt Ideal) r.view (Rect.unit (s := S5120x320) off S160x320.size inb).toLoadRect (hr.unread x0) (ix2 p ch) = x0 (ix2 ⟨o + p.val, hb⟩ ch) := by
  simp only [View.readAt_eq_ld, hr.read_unread]
  refine congrArg x0 ?_
  funext c
  match c with
  | ⟨0, _⟩ => exact Fin.ext (by show off 0 + 1 * p.val = o + p.val; omega)
  | ⟨1, _⟩ => exact Fin.ext (by show off 1 + 1 * ch.val = ch.val; omega)

/-- A load of 160 rows of the scales. -/
theorem readS (r : Memref sig .tc .vmem S5120x10 .i8) (hr : r.IsWhole) (x0 : Vec Ideal S5120x10 .i8) (off : Fin 2 → ℕ)
    (inb : ∀ a, off a + S160x10.size a ≤ S5120x10.size a) (o : ℕ) (h0 : off 0 = o) (h1 : off 1 = 0) (p : Fin 160) (ch : Fin 10) (hb : o + p.val < 5120) :
    View.readAt (Elt Ideal) r.view (Rect.unit (s := S5120x10) off S160x10.size inb).toLoadRect (hr.unread x0) (ix2 p ch) = x0 (ix2 ⟨o + p.val, hb⟩ ch) := by
  simp only [View.readAt_eq_ld, hr.read_unread]
  refine congrArg x0 ?_
  funext c
  match c with
  | ⟨0, _⟩ => exact Fin.ext (by show off 0 + 1 * p.val = o + p.val; omega)
  | ⟨1, _⟩ => exact Fin.ext (by show off 1 + 1 * ch.val = ch.val; omega)

/-- A store that agrees with the contents `G`. -/
def Agrees {s : Shape} {e : EltTy} (G : Vec Ideal s e) (p : View.Piece (Elt Ideal) s e) : Prop := ∀ y, p.2 y = G (p.1.emb y)

/-- A stored row of the even buffer agrees with `EV`. -/
theorem ev_piece (x0 : Vec Ideal S5120x320 .i8) (x1 : Vec Ideal S5120x10 .i8) (k sl lo : ℕ) (off : Fin 3 → ℕ)
    (inb : ∀ a, off a + (![1, 80, 128] : Fin 3 → ℕ) a ≤ S4x1280x256.size a) (h0 : off 0 = sl) (h1 : off 1 = 80 * k) (h2 : off 2 = lo)
    (v : Vec Ideal S1x80x128 .bf16)
    (hv : ∀ (z : Fin 1) (j : Fin 80) (l : Fin 128), v (ix3 z j l) = slotV (fun p ch => P0 x0 x1 (320 * k + p) ch) sl j (lo + l))
    : Agrees (EV x0 x1) ⟨Rect.unit (s := S4x1280x256) off ![1, 80, 128] inb, v⟩ := by
  intro y
  obtain ⟨z, j, l, rfl⟩ : ∃ (z : Fin 1) (j : Fin 80) (l : Fin 128), y = ix3 z j l := ⟨y 0, y 1, y 2, eq_ix3 y⟩
  refine (hv z j l).trans ?_
  have e0 : (((Rect.unit (s := S4x1280x256) off ![1, 80, 128] inb).emb (ix3 z j l)) 0).val = sl := by
    show off 0 + 1 * z.val = sl; omega
  have e1 : (((Rect.unit (s := S4x1280x256) off ![1, 80, 128] inb).emb (ix3 z j l)) 1).val = 80 * k + j.val := by
    show off 1 + 1 * j.val = _; omega
  have e2 : (((Rect.unit (s := S4x1280x256) off ![1, 80, 128] inb).emb (ix3 z j l)) 2).val = lo + l.val := by
    show off 2 + 1 * l.val = _; omega
  unfold EV
  rw [e0, e1, e2, show (80 * k + j.val) / 80 = k by omega, show (80 * k + j.val) % 80 = j.val by omega]

/-- A stored row of the odd buffer agrees with `OD`. -/
theorem od_piece (x0 : Vec Ideal S5120x320 .i8) (x1 : Vec Ideal S5120x10 .i8) (top : Vec Ideal S4x80x256 .bf16) (k sl lo : ℕ) (off : Fin 3 → ℕ)
    (inb : ∀ a, off a + (![1, 80, 128] : Fin 3 → ℕ) a ≤ S4x1360x256.size a) (h0 : off 0 = sl) (h1 : off 1 = 80 * k + 80) (h2 : off 2 = lo)
    (v : Vec Ideal S1x80x128 .bf16)
    (hv : ∀ (z : Fin 1) (j : Fin 80) (l : Fin 128), v (ix3 z j l) = slotV (fun p ch => P0 x0 x1 (320 * k + 160 + p) ch) sl j (lo + l))
    : Agrees (OD x0 x1 top) ⟨Rect.unit (s := S4x1360x256) off ![1, 80, 128] inb, v⟩ := by
  intro y
  obtain ⟨z, j, l, rfl⟩ : ∃ (z : Fin 1) (j : Fin 80) (l : Fin 128), y = ix3 z j l := ⟨y 0, y 1, y 2, eq_ix3 y⟩
  refine (hv z j l).trans ?_
  have e0 : (((Rect.unit (s := S4x1360x256) off ![1, 80, 128] inb).emb (ix3 z j l)) 0).val = sl := by
    show off 0 + 1 * z.val = sl; omega
  have e1 : (((Rect.unit (s := S4x1360x256) off ![1, 80, 128] inb).emb (ix3 z j l)) 1).val = 80 * k + 80 + j.val := by
    show off 1 + 1 * j.val = _; omega
  have e2 : (((Rect.unit (s := S4x1360x256) off ![1, 80, 128] inb).emb (ix3 z j l)) 2).val = lo + l.val := by
    show off 2 + 1 * l.val = _; omega
  unfold OD
  rw [dif_neg (by rw [e1]; omega)]
  rw [e0, e1, e2, show (80 * k + 80 + j.val) / 80 - 1 = k by omega, show (80 * k + 80 + j.val) % 80 = j.val by omega]

/-- The first loop has sixteen trips. -/
theorem trips1 : k0_t1_loop.trips = 16 := by decide +kernel

/-- Where a trip reads its even row. -/
theorem offR0 : ∀ k : Fin k0_t1_loop.trips, BitVec.toNat (Scalar.indexCast (Scalar.muli (Scalar.muli (Scalar.addi (Scalar.muli 2#32 (Scf.iv 0#32 1#32 k.val)) 0#32) 4#32) 40#32)) = 320 * k.val := by
  decide +kernel
/-- Where a trip reads its odd row. -/
theorem offR1 : ∀ k : Fin k0_t1_loop.trips, BitVec.toNat (Scalar.indexCast (Scalar.muli (Scalar.muli (Scalar.addi (Scalar.muli 2#32 (Scf.iv 0#32 1#32 k.val)) 1#32) 4#32) 40#32)) = 320 * k.val + 160 := by
  decide +kernel
/-- Where a trip stores its even row. -/
theorem offW0 : ∀ k : Fin k0_t1_loop.trips, BitVec.toNat (Scalar.indexCast (Scalar.addi (Scalar.muli (Scf.iv 0#32 1#32 k.val) 80#32) 0#32)) = 80 * k.val := by
  decide +kernel
/-- Where a trip stores its odd row. -/
theorem offW1 : ∀ k : Fin k0_t1_loop.trips, BitVec.toNat (Scalar.indexCast (Scalar.addi (Scalar.muli (Scf.iv 0#32 1#32 k.val) 80#32) 80#32)) = 80 * k.val + 80 := by
  decide +kernel

/-- The products of the row that is read are the step's. -/
theorem row_px (r1 : Memref sig .tc .vmem S5120x320 .i8) (hr1 : r1.IsWhole) (r2 : Memref sig .tc .vmem S5120x10 .i8) (hr2 : r2.IsWhole)
    (x0 : Vec Ideal S5120x320 .i8) (x1 : Vec Ideal S5120x10 .i8) (off off' : Fin 2 → ℕ)
    (inb : ∀ a, off a + S160x320.size a ≤ S5120x320.size a) (inb' : ∀ a, off' a + S160x10.size a ≤ S5120x10.size a)
    (o : ℕ) (h0 : off 0 = o) (h1 : off 1 = 0) (h0' : off' 0 = o) (h1' : off' 1 = 0) (ho : o + 160 ≤ 5120) (p : Fin 160) (ch : Fin 320) :
    px (View.readAt (Elt Ideal) r1.view (Rect.unit (s := S5120x320) off S160x320.size inb).toLoadRect (hr1.unread x0))
      (View.readAt (Elt Ideal) r2.view (Rect.unit (s := S5120x10) off' S160x10.size inb').toLoadRect (hr2.unread x1)) p ch = P0 x0 x1 (o + p.val) ch.val := by
  have hp := p.isLt
  unfold px P0
  rw [dif_pos ⟨by omega, ch.isLt⟩, readX r1 hr1 x0 off inb o h0 h1 p ch (by omega), readS r2 hr2 x1 off' inb' o h0' h1' p _ (by omega)]

variable (c : Dev nD) (i : grid0.Coords)
  (arg1 : Memref sig .tc .vmem S5120x320 .i8) (harg1 : arg1.IsWhole) (arg2 : Memref sig .tc .vmem S5120x10 .i8) (harg2 : arg2.IsWhole)
  (arg3 : Memref sig .tc .vmem S3x3x320x640 .fp8e4m3) (harg3 : arg3.IsWhole) (arg4 : Memref sig .tc .vmem S3x3x10x640 .i8) (harg4 : arg4.IsWhole)
  (arg5 : Memref sig .tc .vmem S640x1 .f32) (harg5 : arg5.IsWhole) (arg6 : Memref sig .tc .vmem S1280x640 .bf16) (harg6 : arg6.IsWhole)
  (arg7 : Memref sig .tc .vmem S4x1280x256 .bf16) (harg7 : arg7.IsWhole) (arg8 : Memref sig .tc .vmem S4x1360x256 .bf16) (harg8 : arg8.IsWhole)
  (arg9 : Memref sig .tc .vmem S12x640x256 .bf16) (harg9 : arg9.IsWhole)

variable {F : FTy → Type} [FloatOps F]
variable (X1 : BufTy.Contents (Elt F) arg1.view.ty) (X2 : BufTy.Contents (Elt F) arg2.view.ty) (k : Fin k0_t1_loop.trips)

/-- The even row's codes of a trip. -/
def xr0 : Vec F S160x320 .i8 :=
  View.readAt (Elt F) arg1.view (Rect.unit (s := S5120x320) (k0_off1 k 0#32) S160x320.size (k0_part11._proof_1 k)).toLoadRect X1
/-- The even row's scales of a trip. -/
def sr0 : Vec F S160x10 .i8 :=
  View.readAt (Elt F) arg2.view (Rect.unit (s := S5120x10) (k0_off2 k 0#32) S160x10.size (k0_part11._proof_5 k)).toLoadRect X2
/-- The odd row's codes of a trip. -/
def xr1 : Vec F S160x320 .i8 :=
  View.readAt (Elt F) arg1.view (Rect.unit (s := S5120x320) (k0_off1 k 1#32) S160x320.size (by exact k0_part18._proof_1 k)).toLoadRect X1
/-- The odd row's scales of a trip. -/
def sr1 : Vec F S160x10 .i8 :=
  View.readAt (Elt F) arg2.view (Rect.unit (s := S5120x10) (k0_off2 k 1#32) S160x10.size (by exact k0_part18._proof_3 k)).toLoadRect X2

/-- A term a trip shares, of the row that is read. -/
theorem wx0 : trip_k0_t1.sl.v25 arg1 X1 k = xw (xr0 arg1 X1 k) := rfl
/-- A term a trip shares, of the row that is read. -/
theorem ws0 : trip_k0_t1.sl.v29 arg2 X2 k = k0_pay99 (sr0 arg2 X2 k) := rfl
/-- A term a trip shares, of the row that is read. -/
theorem wc0 : trip_k0_t1.sl.v31 arg2 X2 k = sw (sr0 arg2 X2 k) := rfl
/-- A term a trip shares, of the row that is read. -/
theorem wl0 : trip_k0_t1.sl.v56 = k0_pay101 := rfl
/-- A trip's stored term for its even row, slot 3, second lanes. -/
theorem we31 : k0_pay125 (trip_k0_t1.sl.r_6 arg1 arg2 X1 X2 k) = store31 (xr0 arg1 X1 k) (sr0 arg2 X2 k) := by
  unfold trip_k0_t1.sl.r_6 trip_k0_t1.sl.r_5
  rw [wx0, ws0]; exact e31 _ _
/-- A trip's stored term for its even row, slot 3, first lanes. -/
theorem we30 : k0_pay124 (trip_k0_t1.sl.r_7 arg1 arg2 X1 X2 k) = store30 (xr0 arg1 X1 k) (sr0 arg2 X2 k) := by
  unfold trip_k0_t1.sl.r_7 trip_k0_t1.sl.r_5
  rw [wx0, ws0]; exact e30 _ _
/-- A trip's stored term for its even row, slot 2, second lanes. -/
theorem we21 : k0_pay117 (trip_k0_t1.sl.r_3 arg1 arg2 X1 X2 k) (trip_k0_t1.sl.r_4 arg1 arg2 X1 X2 k) = store21 (xr0 arg1 X1 k) (sr0 arg2 X2 k) := by
  unfold trip_k0_t1.sl.r_3 trip_k0_t1.sl.r_4 trip_k0_t1.sl.r_2
  rw [wx0, ws0]; exact e21 _ _
/-- A trip's stored term for its even row, slot 1, second lanes. -/
theorem we11 : k0_pay115 (trip_k0_t1.sl.v25 arg1 X1 k) (trip_k0_t1.sl.r_2 arg2 X2 k) k0_pay109 k0_pay110 = store11 (xr0 arg1 X1 k) (sr0 arg2 X2 k) := by
  unfold trip_k0_t1.sl.r_2
  rw [wx0, ws0]; exact e11 _ _
/-- A trip's stored term for its even row, slot 0, second lanes. -/
theorem we01 : k0_pay114 (trip_k0_t1.sl.v25 arg1 X1 k) (trip_k0_t1.sl.r_2 arg2 X2 k) k0_pay109 k0_pay110 = store01 (xr0 arg1 X1 k) (sr0 arg2 X2 k) := by
  unfold trip_k0_t1.sl.r_2
  rw [wx0, ws0]; exact e01 _ _
/-- A trip's stored term for its even row, slot 2, first lanes. -/
theorem we20 : k0_pay107 (trip_k0_t1.sl.r arg1 arg2 X1 X2 k) = store20 (xr0 arg1 X1 k) (sr0 arg2 X2 k) := by
  unfold trip_k0_t1.sl.r
  rw [wx0, wc0, wl0]; exact e20 _ _
/-- A trip's stored term for its even row, slot 1, first lanes. -/
theorem we10 : trip_k0_t1.sl.r_1 arg1 arg2 X1 X2 k = store10 (xr0 arg1 X1 k) (sr0 arg2 X2 k) := by
  unfold trip_k0_t1.sl.r_1
  rw [wx0, wc0, wl0]; exact e10 _ _
/-- A trip's stored term for its even row, slot 0, first lanes. -/
theorem we00 : k0_pay105 (trip_k0_t1.sl.v25 arg1 X1 k) (trip_k0_t1.sl.v31 arg2 X2 k) trip_k0_t1.sl.v56 = store00 (xr0 arg1 X1 k) (sr0 arg2 X2 k) := by
  rw [wx0, wc0, wl0]; exact e00 _ _

/-- A term a trip shares, of the row that is read. -/
theorem wg1 : trip_k0_t1.sl.v358 arg2 X2 k = k0_pay128 (sr1 arg2 X2 k) := rfl
/-- A term a trip shares, of the row that is read. -/
theorem wg2 : trip_k0_t1.sl.v445 arg2 X2 k = k0_pay137 (k0_pay127 (sr1 arg2 X2 k)) := rfl
/-- A term a trip shares, of the row that is read. -/
theorem wg3 : trip_k0_t1.sl.v532 arg2 X2 k = k0_pay146 (k0_pay127 (sr1 arg2 X2 k)) := rfl
/-- A term a trip shares, of the row that is read. -/
theorem wx1 : trip_k0_t1.sl.v359 arg1 X1 k = k0_pay129 (xr1 arg1 X1 k) := rfl
/-- A term a trip shares, of the row that is read. -/
theorem wm1 : trip_k0_t1.sl.v360 = k0_pay130 := rfl
/-- A term a trip shares, of the row that is read. -/
theorem wx2 : trip_k0_t1.sl.v446 arg1 X1 k = k0_pay138 (k0_pay126 (xr1 arg1 X1 k)) := rfl
/-- A term a trip shares, of the row that is read. -/
theorem wy2 : trip_k0_t1.sl.v449 arg1 X1 k = k0_pay139 (k0_pay126 (xr1 arg1 X1 k)) := rfl
/-- A term a trip shares, of the row that is read. -/
theorem wx3 : trip_k0_t1.sl.v535 arg1 X1 k = k0_pay147 (k0_pay126 (xr1 arg1 X1 k)) := rfl
/-- A term a trip shares, of the row that is read. -/
theorem wy3 : trip_k0_t1.sl.v537 arg1 X1 k = k0_pay148 (k0_pay126 (xr1 arg1 X1 k)) := rfl
/-- A trip's stored term for its odd row, slot 3, second lanes. -/
theorem wo31 : k0_pay5 (trip_k0_t1.sl.r_10 arg1 arg2 X1 X2 k) k0_pay153 (trip_k0_t1.sl.r_11 arg1 arg2 X1 X2 k) = store31 (xr1 arg1 X1 k) (sr1 arg2 X2 k) := by
  unfold trip_k0_t1.sl.r_10 trip_k0_t1.sl.r_11
  rw [wg3, wx3, wy3]; exact o31 _ _
/-- A trip's stored term for its odd row, slot 3, first lanes. -/
theorem wo30 : k0_pay151 (trip_k0_t1.sl.v532 arg2 X2 k) (trip_k0_t1.sl.v535 arg1 X1 k) (trip_k0_t1.sl.v537 arg1 X1 k) = store30 (xr1 arg1 X1 k) (sr1 arg2 X2 k) := by
  rw [wg3, wx3, wy3]; exact o30 _ _
/-- A trip's stored term for its odd row, slot 2, second lanes. -/
theorem wo21 : trip_k0_t1.sl.v495 arg1 arg2 X1 X2 k = store21 (xr1 arg1 X1 k) (sr1 arg2 X2 k) := by
  unfold trip_k0_t1.sl.v495 trip_k0_t1.sl.r_9
  rw [wg2, wx2, wy2]; exact o21 _ _
/-- A trip's stored term for its odd row, slot 1, second lanes. -/
theorem wo11 : k0_pay143 (trip_k0_t1.sl.v445 arg2 X2 k) (trip_k0_t1.sl.v446 arg1 X1 k) (trip_k0_t1.sl.v449 arg1 X1 k) = store11 (xr1 arg1 X1 k) (sr1 arg2 X2 k) := by
  rw [wg2, wx2, wy2]; exact o11 _ _
/-- A trip's stored term for its odd row, slot 0, second lanes. -/
theorem wo01 : k0_pay142 (trip_k0_t1.sl.v445 arg2 X2 k) (trip_k0_t1.sl.v446 arg1 X1 k) (trip_k0_t1.sl.v449 arg1 X1 k) = store01 (xr1 arg1 X1 k) (sr1 arg2 X2 k) := by
  rw [wg2, wx2, wy2]; exact o01 _ _
/-- A trip's stored term for its odd row, slot 2, first lanes. -/
theorem wo20 : trip_k0_t1.sl.v408 arg1 arg2 X1 X2 k = store20 (xr1 arg1 X1 k) (sr1 arg2 X2 k) := by
  unfold trip_k0_t1.sl.v408 trip_k0_t1.sl.r_8
  rw [wg1, wx1, wm1]; exact o20 _ _
/-- A trip's stored term for its odd row, slot 1, first lanes. -/
theorem wo10 : k0_pay134 (trip_k0_t1.sl.v358 arg2 X2 k) (trip_k0_t1.sl.v359 arg1 X1 k) trip_k0_t1.sl.v360 = store10 (xr1 arg1 X1 k) (sr1 arg2 X2 k) := by
  rw [wg1, wx1, wm1]; exact o10 _ _
/-- A trip's stored term for its odd row, slot 0, first lanes. -/
theorem wo00 : k0_pay133 (trip_k0_t1.sl.v358 arg2 X2 k) (trip_k0_t1.sl.v359 arg1 X1 k) trip_k0_t1.sl.v360 = store00 (xr1 arg1 X1 k) (sr1 arg2 X2 k) := by
  rw [wg1, wx1, wm1]; exact o00 _ _

/-- Every store of a trip into the even buffer agrees with `EV x0 x1`. -/
theorem trip_ev (x0 : Vec Ideal S5120x320 .i8) (x1 : Vec Ideal S5120x10 .i8) (k : Fin k0_t1_loop.trips) :
    ∀ p ∈ (trip_k0_t1 (F := Ideal) Variants.none c none i arg1 harg1 arg2 harg2 arg3 harg3 arg4 harg4 arg5 harg5 arg6 harg6 arg7 harg7 arg8 harg8 arg9 harg9
      (harg1.unread x0) (harg2.unread x1) k).1, Agrees (EV x0 x1) p := by
  have hk : k.val < 16 := trips1 ▸ k.isLt
  have hP : ∀ (p : Fin 160) (ch : Fin 320), px (xr0 arg1 (harg1.unread x0) k) (sr0 arg2 (harg2.unread x1) k) p ch = P0 x0 x1 (320 * k.val + p.val) ch.val := fun p ch =>
    row_px arg1 harg1 arg2 harg2 x0 x1 _ _ _ _ (320 * k.val) (offR0 k) rfl (offR0 k) rfl (by omega) p ch
  unfold trip_k0_t1
  dsimp only
  intro p hp
  rcases List.mem_cons.1 hp with rfl | hp
  · exact ev_piece x0 x1 k.val 3 128 _ _ rfl (offW0 k) rfl _ (fun z j l => (congrFun (we31 arg1 arg2 (harg1.unread x0) (harg2.unread x1) k) (ix3 z j l)).trans (store31_apply _ _ (fun p ch => P0 x0 x1 (320 * k.val + p) ch) hP z j l))
  rcases List.mem_cons.1 hp with rfl | hp
  · exact ev_piece x0 x1 k.val 3 0 _ _ rfl (offW0 k) rfl _ (fun z j l => by rw [Nat.zero_add]; exact (congrFun (we30 arg1 arg2 (harg1.unread x0) (harg2.unread x1) k) (ix3 z j l)).trans (store30_apply _ _ (fun p ch => P0 x0 x1 (320 * k.val + p) ch) hP z j l))
  rcases List.mem_cons.1 hp with rfl | hp
  · exact ev_piece x0 x1 k.val 2 128 _ _ rfl (offW0 k) rfl _ (fun z j l => (congrFun (we21 arg1 arg2 (harg1.unread x0) (harg2.unread x1) k) (ix3 z j l)).trans (store21_apply _ _ (fun p ch => P0 x0 x1 (320 * k.val + p) ch) hP z j l))
  rcases List.mem_cons.1 hp with rfl | hp
  · exact ev_piece x0 x1 k.val 1 128 _ _ rfl (offW0 k) rfl _ (fun z j l => (congrFun (we11 arg1 arg2 (harg1.unread x0) (harg2.unread x1) k) (ix3 z j l)).trans (store11_apply _ _ (fun p ch => P0 x0 x1 (320 * k.val + p) ch) hP z j l))
  rcases List.mem_cons.1 hp with rfl | hp
  · exact ev_piece x0 x1 k.val 0 128 _ _ rfl (offW0 k) rfl _ (fun z j l => (congrFun (we01 arg1 arg2 (harg1.unread x0) (harg2.unread x1) k) (ix3 z j l)).trans (store01_apply _ _ (fun p ch => P0 x0 x1 (320 * k.val + p) ch) hP z j l))
  rcases List.mem_cons.1 hp with rfl | hp
  · exact ev_piece x0 x1 k.val 2 0 _ _ rfl (offW0 k) rfl _ (fun z j l => by rw [Nat.zero_add]; exact (congrFun (we20 arg1 arg2 (harg1.unread x0) (harg2.unread x1) k) (ix3 z j l)).trans (store20_apply _ _ (fun p ch => P0 x0 x1 (320 * k.val + p) ch) hP z j l))
  rcases List.mem_cons.1 hp with rfl | hp
  · exact ev_piece x0 x1 k.val 1 0 _ _ rfl (offW0 k) rfl _ (fun z j l => by rw [Nat.zero_add]; exact (congrFun (we10 arg1 arg2 (harg1.unread x0) (harg2.unread x1) k) (ix3 z j l)).trans (store10_apply _ _ (fun p ch => P0 x0 x1 (320 * k.val + p) ch) hP z j l))
  rcases List.mem_cons.1 hp with rfl | hp
  · exact ev_piece x0 x1 k.val 0 0 _ _ rfl (offW0 k) rfl _ (fun z j l => by rw [Nat.zero_add]; exact (congrFun (we00 arg1 arg2 (harg1.unread x0) (harg2.unread x1) k) (ix3 z j l)).trans (store00_apply _ _ (fun p ch => P0 x0 x1 (320 * k.val + p) ch) hP z j l))
  exact absurd hp List.not_mem_nil

/-- Every store of a trip into the odd buffer agrees with `OD x0 x1 top`. -/
theorem trip_od (x0 : Vec Ideal S5120x320 .i8) (x1 : Vec Ideal S5120x10 .i8) (top : Vec Ideal S4x80x256 .bf16) (k : Fin k0_t1_loop.trips) :
    ∀ p ∈ (trip_k0_t1 (F := Ideal) Variants.none c none i arg1 harg1 arg2 harg2 arg3 harg3 arg4 harg4 arg5 harg5 arg6 harg6 arg7 harg7 arg8 harg8 arg9 harg9
      (harg1.unread x0) (harg2.unread x1) k).2.1, Agrees (OD x0 x1 top) p := by
  have hk : k.val < 16 := trips1 ▸ k.isLt
  have hP : ∀ (p : Fin 160) (ch : Fin 320), px (xr1 arg1 (harg1.unread x0) k) (sr1 arg2 (harg2.unread x1) k) p ch = P0 x0 x1 (320 * k.val + 160 + p.val) ch.val := fun p ch =>
    row_px arg1 harg1 arg2 harg2 x0 x1 _ _ _ _ (320 * k.val + 160) (offR1 k) rfl (offR1 k) rfl (by omega) p ch
  unfold trip_k0_t1
  dsimp only
  intro p hp
  rcases List.mem_cons.1 hp with rfl | hp
  · exact od_piece x0 x1 top k.val 3 128 _ _ rfl (offW1 k) rfl _ (fun z j l => (congrFun (wo31 arg1 arg2 (harg1.unread x0) (harg2.unread x1) k) (ix3 z j l)).trans (store31_apply _ _ (fun p ch => P0 x0 x1 (320 * k.val + 160 + p) ch) hP z j l))
  rcases List.mem_cons.1 hp with rfl | hp
  · exact od_piece x0 x1 top k.val 3 0 _ _ rfl (offW1 k) rfl _ (fun z j l => by rw [Nat.zero_add]; exact (congrFun (wo30 arg1 arg2 (harg1.unread x0) (harg2.unread x1) k) (ix3 z j l)).trans (store30_apply _ _ (fun p ch => P0 x0 x1 (320 * k.val + 160 + p) ch) hP z j l))
  rcases List.mem_cons.1 hp with rfl | hp
  · exact od_piece x0 x1 top k.val 2 128 _ _ rfl (offW1 k) rfl _ (fun z j l => (congrFun (wo21 arg1 arg2 (harg1.unread x0) (harg2.unread x1) k) (ix3 z j l)).trans (store21_apply _ _ (fun p ch => P0 x0 x1 (320 * k.val + 160 + p) ch) hP z j l))
  rcases List.mem_cons.1 hp with rfl | hp
  · exact od_piece x0 x1 top k.val 1 128 _ _ rfl (offW1 k) rfl _ (fun z j l => (congrFun (wo11 arg1 arg2 (harg1.unread x0) (harg2.unread x1) k) (ix3 z j l)).trans (store11_apply _ _ (fun p ch => P0 x0 x1 (320 * k.val + 160 + p) ch) hP z j l))
  rcases List.mem_cons.1 hp with rfl | hp
  · exact od_piece x0 x1 top k.val 0 128 _ _ rfl (offW1 k) rfl _ (fun z j l => (congrFun (wo01 arg1 arg2 (harg1.unread x0) (harg2.unread x1) k) (ix3 z j l)).trans (store01_apply _ _ (fun p ch => P0 x0 x1 (320 * k.val + 160 + p) ch) hP z j l))
  rcases List.mem_cons.1 hp with rfl | hp
  · exact od_piece x0 x1 top k.val 2 0 _ _ rfl (offW1 k) rfl _ (fun z j l => by rw [Nat.zero_add]; exact (congrFun (wo20 arg1 arg2 (harg1.unread x0) (harg2.unread x1) k) (ix3 z j l)).trans (store20_apply _ _ (fun p ch => P0 x0 x1 (320 * k.val + 160 + p) ch) hP z j l))
  rcases List.mem_cons.1 hp with rfl | hp
  · exact od_piece x0 x1 top k.val 1 0 _ _ rfl (offW1 k) rfl _ (fun z j l => by rw [Nat.zero_add]; exact (congrFun (wo10 arg1 arg2 (harg1.unread x0) (harg2.unread x1) k) (ix3 z j l)).trans (store10_apply _ _ (fun p ch => P0 x0 x1 (320 * k.val + 160 + p) ch) hP z j l))
  rcases List.mem_cons.1 hp with rfl | hp
  · exact od_piece x0 x1 top k.val 0 0 _ _ rfl (offW1 k) rfl _ (fun z j l => by rw [Nat.zero_add]; exact (congrFun (wo00 arg1 arg2 (harg1.unread x0) (harg2.unread x1) k) (ix3 z j l)).trans (store00_apply _ _ (fun p ch => P0 x0 x1 (320 * k.val + 160 + p) ch) hP z j l))
  exact absurd hp List.not_mem_nil

end Cert.KernelIdeal.Val
end
-- ==== Proof.Bufs.lean ====
/- The two row buffers after the first loop: what each of a trip's stores agrees with, and so what the buffers hold. -/
module

public import proofs.«01_k».proof.Proof.RowPieces
public import Idealize.ShloMosaic.Lib.Pipeline.CanonAppend

@[expose] public section

set_option maxRecDepth 16384
noncomputable section
namespace Cert.KernelIdeal.Val
open Cert.KernelIdeal Cert.KernelIdeal.Gen
open Idealize.ShloMosaic Idealize.ShloMosaic.TcCoe Idealize.ShloMosaic.Tactic
open Idealize.SL.Sem

variable (c : Dev nD) (i : grid0.Coords)
  (arg1 : Memref sig .tc .vmem S5120x320 .i8) (harg1 : arg1.IsWhole) (arg2 : Memref sig .tc .vmem S5120x10 .i8) (harg2 : arg2.IsWhole)
  (arg3 : Memref sig .tc .vmem S3x3x320x640 .fp8e4m3) (harg3 : arg3.IsWhole) (arg4 : Memref sig .tc .vmem S3x3x10x640 .i8) (harg4 : arg4.IsWhole)
  (arg5 : Memref sig .tc .vmem S640x1 .f32) (harg5 : arg5.IsWhole) (arg6 : Memref sig .tc .vmem S1280x640 .bf16) (harg6 : arg6.IsWhole)
  (arg7 : Memref sig .tc .vmem S4x1280x256 .bf16) (harg7 : arg7.IsWhole) (arg8 : Memref sig .tc .vmem S4x1360x256 .bf16) (harg8 : arg8.IsWhole)
  (arg9 : Memref sig .tc .vmem S12x640x256 .bf16) (harg9 : arg9.IsWhole)

/-- The first loop's stores up to a trip, in both buffers. -/
theorem pb_agrees (x0 : Vec Ideal S5120x320 .i8) (x1 : Vec Ideal S5120x10 .i8) (top : Vec Ideal S4x80x256 .bf16) (n : ℕ) (hn : n ≤ k0_t1_loop.trips) :
    (∀ p ∈ (pb_k0_t1 (F := Ideal) Variants.none c none i arg1 harg1 arg2 harg2 arg3 harg3 arg4 harg4 arg5 harg5 arg6 harg6 arg7 harg7 arg8 harg8 arg9 harg9
      (harg1.unread x0) (harg2.unread x1) n).1, Agrees (EV x0 x1) p) ∧
    (∀ p ∈ (pb_k0_t1 (F := Ideal) Variants.none c none i arg1 harg1 arg2 harg2 arg3 harg3 arg4 harg4 arg5 harg5 arg6 harg6 arg7 harg7 arg8 harg8 arg9 harg9
      (harg1.unread x0) (harg2.unread x1) n).2, Agrees (OD x0 x1 top) p) := by
  induction n with
  | zero => exact ⟨fun p hp => absurd hp List.not_mem_nil, fun p hp => absurd hp List.not_mem_nil⟩
  | succ n ih =>
    have ih := ih (by omega)
    have e := pb_k0_t1_succ (F := Ideal) Variants.none c none i arg1 harg1 arg2 harg2 arg3 harg3 arg4 harg4 arg5 harg5 arg6 harg6 arg7 harg7 arg8 harg8 arg9 harg9
      (harg1.unread x0) (harg2.unread x1) ⟨n, hn⟩
    refine ⟨fun p hp => ?_, fun p hp => ?_⟩
    · have hp : p ∈ (_ : List _) := (congrArg (fun q => p ∈ q.1) e).mp hp
      rcases List.mem_append.1 hp with h | h
      · unfold tripL_k0_t1 at h
        exact trip_ev c i arg1 harg1 arg2 harg2 arg3 harg3 arg4 harg4 arg5 harg5 arg6 harg6 arg7 harg7 arg8 harg8 arg9 harg9 x0 x1 ⟨n, hn⟩ p h
      · exact ih.1 p h
    · have hp : p ∈ (_ : List _) := (congrArg (fun q => p ∈ q.2) e).mp hp
      rcases List.mem_append.1 hp with h | h
      · unfold tripL_k0_t1 at h
        exact trip_od c i arg1 harg1 arg2 harg2 arg3 harg3 arg4 harg4 arg5 harg5 arg6 harg6 arg7 harg7 arg8 harg8 arg9 harg9 x0 x1 top ⟨n, hn⟩ p h
      · exact ih.2 p h

/-- The even rows' buffer after the first loop. -/
theorem canon_ev (x0 : Vec Ideal S5120x320 .i8) (x1 : Vec Ideal S5120x10 .i8) :
    View.canon (pb_k0_t1 (F := Ideal) Variants.none c none i arg1 harg1 arg2 harg2 arg3 harg3 arg4 harg4 arg5 harg5 arg6 harg6 arg7 harg7 arg8 harg8 arg9 harg9
      (harg1.unread x0) (harg2.unread x1) (Scf.trips k0_t1_loop.lb k0_t1_loop.ub k0_t1_loop.st)).1 = EV x0 x1 := by
  funext y
  have h := View.canon_append_of_pieces (EV x0 x1) [] _
    (pb_agrees c i arg1 harg1 arg2 harg2 arg3 harg3 arg4 harg4 arg5 harg5 arg6 harg6 arg7 harg7 arg8 harg8 arg9 harg9 x0 x1 (fun _ => 0) (Scf.trips k0_t1_loop.lb k0_t1_loop.ub k0_t1_loop.st) le_rfl).1 y
    (cover7 c i arg1 harg1 arg2 harg2 arg3 harg3 arg4 harg4 arg5 harg5 arg6 harg6 arg7 harg7 arg8 harg8 arg9 harg9 _ _ y)
  rwa [List.append_nil] at h

/-- A store of the first eighty columns agrees with the odd rows' buffer. -/
theorem top_agrees (x0 : Vec Ideal S5120x320 .i8) (x1 : Vec Ideal S5120x10 .i8) (top : Vec Ideal S4x80x256 .bf16) :
    Agrees (OD x0 x1 top) ⟨Rect.unit (s := S4x1360x256) ![0, 0, 0] S4x80x256.size inb_S4x1360x256_S4x80x256_0_0_0, top⟩ := by
  intro y
  obtain ⟨z, j, l, rfl⟩ : ∃ (z : Fin 4) (j : Fin 80) (l : Fin 256), y = ix3 z j l := ⟨y 0, y 1, y 2, eq_ix3 y⟩
  have e1 : (((Rect.unit (s := S4x1360x256) ![0, 0, 0] S4x80x256.size inb_S4x1360x256_S4x80x256_0_0_0).emb (ix3 z j l)) 1).val = j.val := by
    show 0 + 1 * j.val = _; omega
  unfold OD
  rw [dif_pos (by rw [e1]; exact j.isLt)]
  refine congrArg top ?_
  funext a
  match a with
  | ⟨0, _⟩ => exact Fin.ext (by show z.val = 0 + 1 * z.val; omega)
  | ⟨1, _⟩ => exact Fin.ext (by show j.val = 0 + 1 * j.val; omega)
  | ⟨2, _⟩ => exact Fin.ext (by show l.val = 0 + 1 * l.val; omega)

/-- The odd rows' buffer after the first loop. -/
theorem canon_od (x0 : Vec Ideal S5120x320 .i8) (x1 : Vec Ideal S5120x10 .i8) (top : Vec Ideal S4x80x256 .bf16) :
    View.canon ((pb_k0_t1 (F := Ideal) Variants.none c none i arg1 harg1 arg2 harg2 arg3 harg3 arg4 harg4 arg5 harg5 arg6 harg6 arg7 harg7 arg8 harg8 arg9 harg9
      (harg1.unread x0) (harg2.unread x1) (Scf.trips k0_t1_loop.lb k0_t1_loop.ub k0_t1_loop.st)).2 ++
      [⟨Rect.unit ![0, 0, 0] S4x80x256.size inb_S4x1360x256_S4x80x256_0_0_0, top⟩]) = OD x0 x1 top := by
  funext y
  have h := View.canon_append_of_pieces (OD x0 x1 top) [] _
    (fun p hp => (List.mem_append.1 hp).elim
      ((pb_agrees c i arg1 harg1 arg2 harg2 arg3 harg3 arg4 harg4 arg5 harg5 arg6 harg6 arg7 harg7 arg8 harg8 arg9 harg9 x0 x1 top (Scf.trips k0_t1_loop.lb k0_t1_loop.ub k0_t1_loop.st) le_rfl).2 p)
      (fun h => by obtain rfl := List.mem_singleton.1 h; exact top_agrees x0 x1 top)) y
    (cover8 c i arg1 harg1 arg2 harg2 arg3 harg3 arg4 harg4 arg5 harg5 arg6 harg6 arg7 harg7 arg8 harg8 arg9 harg9 _ _ top y)
  rwa [List.append_nil] at h

end Cert.KernelIdeal.Val
end
-- ==== Proof.WeightEq.lean ====
/- The twelve stores of the weights' buffer, of the taps that are loaded. -/
module

public import proofs.«01_k».proof.Proof.Bufs

@[expose] public section

set_option maxRecDepth 16384
noncomputable section
namespace Cert.KernelIdeal.Val
open Cert.KernelIdeal Cert.KernelIdeal.Gen
open Idealize.ShloMosaic Idealize.ShloMosaic.TcCoe Idealize.ShloMosaic.Tactic
open Idealize.SL.Sem
variable {F : FTy → Type} [FloatOps F]

/-- The part of a tap that the fourth slot holds: channels 256 to 319 of the taps `1`, `2`, `0`, then zeros. -/
def wtail (W1 W2 W0 : Vec F S1x1x320x640 .fp8e4m3) (S1 S2 S0 : Vec F S1x1x10x640 .i8) : FVec F S1x640x256 .bf16 :=
  k0_pay38 (k0_pay9 W1 S1) (k0_pay10 W1 S1) (k0_pay9 W2 S2) (k0_pay10 W2 S2) (k0_pay13 W0) (k0_pay14 S0)

variable (c : Dev nD) (arg3 : Memref sig .tc .vmem S3x3x320x640 .fp8e4m3) (harg3 : arg3.IsWhole) (arg4 : Memref sig .tc .vmem S3x3x10x640 .i8) (harg4 : arg4.IsWhole)
variable (x2 : Vec F S3x3x320x640 .fp8e4m3) (x3 : Vec F S3x3x10x640 .i8)

/-- A tap lies in the weights. -/
theorem inbW : ∀ (ky kx : Fin 3) (a : Fin 4), (![ky.val, kx.val, 0, 0] : Fin 4 → ℕ) a + S1x1x320x640.size a ≤ S3x3x320x640.size a := by decide +kernel
/-- A tap's scales lie in the weights' scales. -/
theorem inbS : ∀ (ky kx : Fin 3) (a : Fin 4), (![ky.val, kx.val, 0, 0] : Fin 4 → ℕ) a + S1x1x10x640.size a ≤ S3x3x10x640.size a := by decide +kernel

/-- A tap's codes, as read. -/
def wr (ky kx : Fin 3) : Vec F S1x1x320x640 .fp8e4m3 :=
  View.readAt (Elt F) arg3.view (Rect.unit (s := S3x3x320x640) ![ky.val, kx.val, 0, 0] S1x1x320x640.size (inbW ky kx)).toLoadRect (harg3.unread x2)
/-- A tap's scales, as read. -/
def sr (ky kx : Fin 3) : Vec F S1x1x10x640 .i8 :=
  View.readAt (Elt F) arg4.view (Rect.unit (s := S3x3x10x640) ![ky.val, kx.val, 0, 0] S1x1x10x640.size (inbS ky kx)).toLoadRect (harg4.unread x3)

/-- What the first point stores in slot 0 of the weights' buffer, of the loaded taps. -/
theorem w0 : k0_pay12 (kernelRun0_A.sl.r_2 c arg3 harg3 arg4 harg4 x2 x3) =
    k0_pay12 (k0_pay11 (wr arg3 harg3 x2 0 1) (sr arg4 harg4 x3 0 1)) := rfl
/-- What the first point stores in slot 1 of the weights' buffer, of the loaded taps. -/
theorem w1 : k0_pay27 (kernelRun0_A.sl.r_5 c arg3 harg3 arg4 harg4 x2 x3) (kernelRun0_A.sl.r_6 c arg3 harg3 arg4 harg4 x2 x3) (kernelRun0_A.sl.r_7 c arg3 harg3 arg4 harg4 x2 x3) (kernelRun0_A.sl.r_8 c arg3 harg3 arg4 harg4 x2 x3) (kernelRun0_A.sl.r_9 c arg3 harg3 arg4 harg4 x2 x3) (kernelRun0_A.sl.r_10 c arg3 harg3 arg4 harg4 x2 x3) (kernelRun0_A.sl.r_11 c arg3 harg3 arg4 harg4 x2 x3) (kernelRun0_A.sl.r_12 c arg3 harg3 arg4 harg4 x2 x3) =
    k0_pay12 (k0_pay11 (wr arg3 harg3 x2 0 2) (sr arg4 harg4 x3 0 2)) := rfl
/-- What the first point stores in slot 2 of the weights' buffer, of the loaded taps. -/
theorem w2 : k0_pay37 (kernelRun0_A.sl.r_17 c arg3 harg3 x2) (kernelRun0_A.sl.r_18 c arg4 harg4 x3) (kernelRun0_A.sl.r_19 c arg3 harg3 arg4 harg4 x2 x3) (kernelRun0_A.sl.r_20 c arg3 harg3 arg4 harg4 x2 x3) (kernelRun0_A.sl.r_21 c arg3 harg3 arg4 harg4 x2 x3) (kernelRun0_A.sl.r_22 c arg3 harg3 arg4 harg4 x2 x3) (kernelRun0_A.sl.r_23 c arg3 harg3 arg4 harg4 x2 x3) (kernelRun0_A.sl.r_24 c arg3 harg3 arg4 harg4 x2 x3) (kernelRun0_A.sl.r_25 c arg3 harg3 arg4 harg4 x2 x3) =
    k0_pay12 (k0_pay11 (wr arg3 harg3 x2 0 0) (sr arg4 harg4 x3 0 0)) := rfl
/-- What the first point stores in slot 3 of the weights' buffer, of the loaded taps. -/
theorem w3 : k0_pay38 (kernelRun0_A.sl.r c arg3 harg3 arg4 harg4 x2 x3) (kernelRun0_A.sl.r_1 c arg3 harg3 arg4 harg4 x2 x3) (kernelRun0_A.sl.r_15 c arg3 harg3 arg4 harg4 x2 x3) (kernelRun0_A.sl.r_16 c arg3 harg3 arg4 harg4 x2 x3) (kernelRun0_A.sl.r_17 c arg3 harg3 x2) (kernelRun0_A.sl.r_18 c arg4 harg4 x3) =
    wtail (wr arg3 harg3 x2 0 1) (wr arg3 harg3 x2 0 2) (wr arg3 harg3 x2 0 0) (sr arg4 harg4 x3 0 1) (sr arg4 harg4 x3 0 2) (sr arg4 harg4 x3 0 0) := rfl
/-- What the first point stores in slot 4 of the weights' buffer, of the loaded taps. -/
theorem w4 : k0_pay47 (kernelRun0_A.sl.r_26 c arg3 harg3 x2) (kernelRun0_A.sl.r_27 c arg4 harg4 x3) (kernelRun0_A.sl.r_28 c arg3 harg3 arg4 harg4 x2 x3) (kernelRun0_A.sl.r_29 c arg3 harg3 arg4 harg4 x2 x3) (kernelRun0_A.sl.r_30 c arg3 harg3 x2) (kernelRun0_A.sl.r_31 c arg4 harg4 x3) =
    k0_pay12 (k0_pay11 (wr arg3 harg3 x2 1 1) (sr arg4 harg4 x3 1 1)) := rfl
/-- What the first point stores in slot 5 of the weights' buffer, of the loaded taps. -/
theorem w5 : k0_pay54 (kernelRun0_A.sl.r_34 c arg3 harg3 x2) (kernelRun0_A.sl.r_35 c arg4 harg4 x3) (kernelRun0_A.sl.r_36 c arg3 harg3 x2) (kernelRun0_A.sl.r_37 c arg4 harg4 x3) =
    k0_pay12 (k0_pay11 (wr arg3 harg3 x2 1 2) (sr arg4 harg4 x3 1 2)) := rfl
/-- What the first point stores in slot 6 of the weights' buffer, of the loaded taps. -/
theorem w6 : k0_pay58 (kernelRun0_A.sl.r_40 c arg3 harg3 x2) (kernelRun0_A.sl.r_41 c arg4 harg4 x3) =
    k0_pay12 (k0_pay11 (wr arg3 harg3 x2 1 0) (sr arg4 harg4 x3 1 0)) := rfl
/-- What the first point stores in slot 7 of the weights' buffer, of the loaded taps. -/
theorem w7 : k0_pay60 (kernelRun0_A.sl.r_42 c arg3 harg3 arg4 harg4 x2 x3) =
    wtail (wr arg3 harg3 x2 1 1) (wr arg3 harg3 x2 1 2) (wr arg3 harg3 x2 1 0) (sr arg4 harg4 x3 1 1) (sr arg4 harg4 x3 1 2) (sr arg4 harg4 x3 1 0) := rfl
/-- What the first point stores in slot 8 of the weights' buffer, of the loaded taps. -/
theorem w8 : k0_pay75 (kernelRun0_A.sl.r_43 c arg3 harg3 arg4 harg4 x2 x3) (kernelRun0_A.sl.r_44 c arg3 harg3 arg4 harg4 x2 x3) (kernelRun0_A.sl.r_45 c arg3 harg3 arg4 harg4 x2 x3) (kernelRun0_A.sl.r_46 c arg3 harg3 arg4 harg4 x2 x3) (kernelRun0_A.sl.r_47 c arg3 harg3 arg4 harg4 x2 x3) (kernelRun0_A.sl.r_48 c arg3 harg3 arg4 harg4 x2 x3) (kernelRun0_A.sl.r_49 c arg3 harg3 arg4 harg4 x2 x3) (kernelRun0_A.sl.r_50 c arg3 harg3 arg4 harg4 x2 x3) =
    k0_pay12 (k0_pay11 (wr arg3 harg3 x2 2 1) (sr arg4 harg4 x3 2 1)) := rfl
/-- What the first point stores in slot 9 of the weights' buffer, of the loaded taps. -/
theorem w9 : k0_pay89 (kernelRun0_A.sl.r_57 c arg3 harg3 arg4 harg4 x2 x3) (kernelRun0_A.sl.r_58 c arg3 harg3 arg4 harg4 x2 x3) (kernelRun0_A.sl.r_59 c arg3 harg3 arg4 harg4 x2 x3) (kernelRun0_A.sl.r_60 c arg3 harg3 arg4 harg4 x2 x3) (kernelRun0_A.sl.r_61 c arg3 harg3 arg4 harg4 x2 x3) (kernelRun0_A.sl.r_62 c arg3 harg3 arg4 harg4 x2 x3) (kernelRun0_A.sl.r_63 c arg3 harg3 arg4 harg4 x2 x3) (kernelRun0_A.sl.r_64 c arg3 harg3 x2) (kernelRun0_A.sl.r_65 c arg4 harg4 x3) =
    k0_pay12 (k0_pay11 (wr arg3 harg3 x2 2 2) (sr arg4 harg4 x3 2 2)) := rfl
/-- What the first point stores in slot 10 of the weights' buffer, of the loaded taps. -/
theorem w10 : k0_pay1 (kernelRun0_A.sl.r_68 c arg3 harg3 x2) (kernelRun0_A.sl.r_69 c arg4 harg4 x3) (kernelRun0_A.sl.r_70 c arg3 harg3 arg4 harg4 x2 x3) (kernelRun0_A.sl.r_71 c arg3 harg3 arg4 harg4 x2 x3) (kernelRun0_A.sl.r_72 c arg3 harg3 arg4 harg4 x2 x3) (kernelRun0_A.sl.r_73 c arg3 harg3 arg4 harg4 x2 x3) (kernelRun0_A.sl.r_74 c arg3 harg3 arg4 harg4 x2 x3) (kernelRun0_A.sl.r_75 c arg3 harg3 arg4 harg4 x2 x3) =
    k0_pay12 (k0_pay11 (wr arg3 harg3 x2 2 0) (sr arg4 harg4 x3 2 0)) := rfl
/-- What the first point stores in slot 11 of the weights' buffer, of the loaded taps. -/
theorem w11 : k0_pay2 (kernelRun0_A.sl.r_51 c arg3 harg3 arg4 harg4 x2 x3) (kernelRun0_A.sl.r_54 c arg3 harg3 arg4 harg4 x2 x3) (kernelRun0_A.sl.r_66 c arg3 harg3 arg4 harg4 x2 x3) (kernelRun0_A.sl.r_67 c arg3 harg3 arg4 harg4 x2 x3) (kernelRun0_A.sl.r_68 c arg3 harg3 x2) (kernelRun0_A.sl.r_69 c arg4 harg4 x3) =
    wtail (wr arg3 harg3 x2 2 1) (wr arg3 harg3 x2 2 2) (wr arg3 harg3 x2 2 0) (sr arg4 harg4 x3 2 1) (sr arg4 harg4 x3 2 2) (sr arg4 harg4 x3 2 0) := rfl
end Cert.KernelIdeal.Val
end
-- ==== Proof.WeightVal.lean ====
/- What the weights' buffer holds: slots of the dequantised taps. -/
module

public import proofs.«01_k».proof.Proof.WeightEq
public import Idealize.ShloMosaic.Lib.Pointwise

@[expose] public section

set_option maxRecDepth 16384
noncomputable section
namespace Cert.KernelIdeal.Val
open Cert.KernelIdeal Cert.KernelIdeal.Gen
open Idealize.ShloMosaic Idealize.ShloMosaic.TcCoe Idealize.ShloMosaic.Tactic
open Idealize.SL.Sem

/-- A weight: the code's value times the scale byte's. -/
def wval (W : Vec Ideal S1x1x320x640 .fp8e4m3) (S : Vec Ideal S1x1x10x640 .i8) (ch : ℕ) (o : Fin 640) : EReal :=
  if h : ch < 320 then W (ix4 0 0 ⟨ch, h⟩ o) * Ideal.ofBits .bf16 ((S (ix4 0 0 ⟨ch / 32, by omega⟩ o)).setWidth 16 <<< 7) else 0

/-- A shift by seven. -/
theorem shl7 (x : BitVec 16) : IntOp.shli ArithUnit.vector x 7#16 = x <<< 7 := rfl

/-- A weight of a block of 32 channels, of the code and the block's scale. -/
theorem wval_leaf (W : Vec Ideal S1x1x320x640 .fp8e4m3) (S : Vec Ideal S1x1x10x640 .i8) (cc : Fin 320) (g : Fin 10) (o : Fin 640) (ch : ℕ)
    (h : cc.val = ch) (hg : g.val = ch / 32) :
    W (ix4 0 0 cc o) * Ideal.ofBits .bf16 (IntOp.shli ArithUnit.vector (BitVec.setWidth 16 (S (ix4 0 0 g o))) 7#16) = wval W S ch o := by
  subst h
  obtain ⟨g, hgl⟩ := g
  change g = _ at hg
  subst hg
  unfold wval
  rw [dif_pos cc.isLt, shl7]

/-- The part of a tap in one of the first three slots. -/
theorem tap_apply (W : Vec Ideal S1x1x320x640 .fp8e4m3) (S : Vec Ideal S1x1x10x640 .i8) (z : Fin 1) (o : Fin 640) (l : Fin 256) :
    k0_pay12 (F := Ideal) (k0_pay11 (F := Ideal) W S) (ix3 z o l) = wval W S l.val o := by
  have hl := l.isLt
  unfold_payloads
  pointwise
  split_ifs <;> exact wval_leaf W S _ _ o _ (by first | rfl | (dsimp only; omega)) (by first | (show 0 = _; omega) | (show 1 = _; omega) | (show 2 = _; omega) | (show 3 = _; omega) | (show 4 = _; omega) | (show 5 = _; omega) | (show 6 = _; omega) | (show 7 = _; omega))

/-- The fourth slot's. -/
theorem tail_apply (W1 W2 W0 : Vec Ideal S1x1x320x640 .fp8e4m3) (S1 S2 S0 : Vec Ideal S1x1x10x640 .i8) (z : Fin 1) (o : Fin 640) (l : Fin 256) :
    wtail (F := Ideal) W1 W2 W0 S1 S2 S0 (ix3 z o l) =
      if l.val < 64 then wval W1 S1 (256 + l.val) o else if l.val < 128 then wval W2 S2 (192 + l.val) o
      else if l.val < 192 then wval W0 S0 (128 + l.val) o else 0 := by
  have hl := l.isLt
  unfold wtail
  unfold_payloads
  pointwise
  by_cases h0 : l.val < 32
  · rw [dif_pos h0, if_pos (show l.val < 64 by omega)]
    exact wval_leaf W1 S1 _ _ o _ (by first | rfl | (dsimp only; omega)) (by show 8 = _; omega)
  by_cases h1 : l.val - 32 < 32
  · rw [dif_neg h0, dif_pos h1, if_pos (show l.val < 64 by omega)]
    exact wval_leaf W1 S1 _ _ o _ (by first | rfl | (dsimp only; omega)) (by show 9 = _; omega)
  by_cases h2 : l.val - 32 - 32 < 32
  · rw [dif_neg h0, dif_neg h1, dif_pos h2, if_neg (show ¬ l.val < 64 by omega), if_pos (show l.val < 128 by omega)]
    exact wval_leaf W2 S2 _ _ o _ (by first | rfl | (dsimp only; omega)) (by show 8 = _; omega)
  by_cases h3 : l.val - 32 - 32 - 32 < 32
  · rw [dif_neg h0, dif_neg h1, dif_neg h2, dif_pos h3, if_neg (show ¬ l.val < 64 by omega), if_pos (show l.val < 128 by omega)]
    exact wval_leaf W2 S2 _ _ o _ (by first | rfl | (dsimp only; omega)) (by show 9 = _; omega)
  by_cases h4 : l.val - 32 - 32 - 32 - 32 < 32
  · rw [dif_neg h0, dif_neg h1, dif_neg h2, dif_neg h3, dif_pos h4, if_neg (show ¬ l.val < 64 by omega), if_neg (show ¬ l.val < 128 by omega), if_pos (show l.val < 192 by omega)]
    exact wval_leaf W0 S0 _ _ o _ (by first | rfl | (dsimp only; omega)) (by show 8 = _; omega)
  by_cases h5 : l.val - 32 - 32 - 32 - 32 - 32 < 32
  · rw [dif_neg h0, dif_neg h1, dif_neg h2, dif_neg h3, dif_neg h4, dif_pos h5, if_neg (show ¬ l.val < 64 by omega), if_neg (show ¬ l.val < 128 by omega), if_pos (show l.val < 192 by omega)]
    exact wval_leaf W0 S0 _ _ o _ (by first | rfl | (dsimp only; omega)) (by show 9 = _; omega)
  rw [dif_neg h0, dif_neg h1, dif_neg h2, dif_neg h3, dif_neg h4, dif_neg h5, if_neg (show ¬ l.val < 64 by omega), if_neg (show ¬ l.val < 128 by omega), if_neg (show ¬ l.val < 192 by omega)]

/-- A weight of the whole arrays. -/
def WV (x2 : Vec Ideal S3x3x320x640 .fp8e4m3) (x3 : Vec Ideal S3x3x10x640 .i8) (ky kx ch : ℕ) (o : Fin 640) : EReal :=
  if h : ky < 3 ∧ kx < 3 ∧ ch < 320 then
    x2 (ix4 ⟨ky, h.1⟩ ⟨kx, h.2.1⟩ ⟨ch, h.2.2⟩ o) * Ideal.ofBits .bf16 ((x3 (ix4 ⟨ky, h.1⟩ ⟨kx, h.2.1⟩ ⟨ch / 32, by omega⟩ o)).setWidth 16 <<< 7) else 0

/-- A slot of the weights: lane `l` of slot `s`. -/
def slotW (W : ℕ → ℕ → EReal) (s l : ℕ) : EReal :=
  if s = 0 then W 1 l else if s = 1 then W 2 l else if s = 2 then W 0 l
  else if l < 64 then W 1 (256 + l) else if l < 128 then W 2 (192 + l) else if l < 192 then W 0 (128 + l) else 0

/-- The weights' buffer. -/
def WT (x2 : Vec Ideal S3x3x320x640 .fp8e4m3) (x3 : Vec Ideal S3x3x10x640 .i8) : Vec Ideal S12x640x256 .bf16 :=
  fun y => slotW (fun kx ch => WV x2 x3 ((y 0).val / 4) kx ch (y 1)) ((y 0).val % 4) (y 2).val

variable (c : Dev nD) (arg3 : Memref sig .tc .vmem S3x3x320x640 .fp8e4m3) (harg3 : arg3.IsWhole) (arg4 : Memref sig .tc .vmem S3x3x10x640 .i8) (harg4 : arg4.IsWhole)
variable (x2 : Vec Ideal S3x3x320x640 .fp8e4m3) (x3 : Vec Ideal S3x3x10x640 .i8)

/-- A tap's weight, as read, is the argument's. -/
theorem wval_WV (ky kx : Fin 3) (ch : ℕ) (o : Fin 640) :
    wval (wr (F := Ideal) arg3 harg3 x2 ky kx) (sr (F := Ideal) arg4 harg4 x3 ky kx) ch o = WV x2 x3 ky.val kx.val ch o := by
  unfold wval WV
  by_cases h : ch < 320
  · rw [dif_pos h, dif_pos ⟨ky.isLt, kx.isLt, h⟩]
    unfold wr sr
    simp only [View.readAt_eq_ld, harg3.read_unread, harg4.read_unread]
    congr 1
    · refine congrArg x2 ?_
      funext a
      match a with
      | ⟨0, _⟩ => exact Fin.ext (by show ky.val + 1 * 0 = ky.val; omega)
      | ⟨1, _⟩ => exact Fin.ext (by show kx.val + 1 * 0 = kx.val; omega)
      | ⟨2, _⟩ => exact Fin.ext (by show 0 + 1 * ch = ch; omega)
      | ⟨3, _⟩ => exact Fin.ext (by show 0 + 1 * o.val = o.val; omega)
    · refine congrArg (fun b : BitVec 8 => Ideal.ofBits .bf16 (b.setWidth 16 <<< 7)) (congrArg x3 ?_)
      funext a
      match a with
      | ⟨0, _⟩ => exact Fin.ext (by show ky.val + 1 * 0 = ky.val; omega)
      | ⟨1, _⟩ => exact Fin.ext (by show kx.val + 1 * 0 = kx.val; omega)
      | ⟨2, _⟩ => exact Fin.ext (by show 0 + 1 * (ch / 32) = ch / 32; omega)
      | ⟨3, _⟩ => exact Fin.ext (by show 0 + 1 * o.val = o.val; omega)
  · rw [dif_neg h, dif_neg (fun h' => h h'.2.2)]

/-- A stored slot agrees with `WT`. -/
theorem wt_piece (n ky s : ℕ) (off : Fin 3 → ℕ) (inb : ∀ a, off a + (![1, 640, 256] : Fin 3 → ℕ) a ≤ S12x640x256.size a)
    (h0 : off 0 = n) (h1 : off 1 = 0) (h2 : off 2 = 0) (hn : n = 4 * ky + s) (hs : s < 4) (v : Vec Ideal S1x640x256 .bf16)
    (hv : ∀ (z : Fin 1) (o : Fin 640) (l : Fin 256), v (ix3 z o l) = slotW (fun kx ch => WV x2 x3 ky kx ch o) s l.val) :
    Agrees (WT x2 x3) ⟨Rect.unit (s := S12x640x256) off ![1, 640, 256] inb, v⟩ := by
  intro y
  obtain ⟨z, o, l, rfl⟩ : ∃ (z : Fin 1) (o : Fin 640) (l : Fin 256), y = ix3 z o l := ⟨y 0, y 1, y 2, eq_ix3 y⟩
  refine (hv z o l).trans ?_
  have e0 : (((Rect.unit (s := S12x640x256) off ![1, 640, 256] inb).emb (ix3 z o l)) 0).val = n := by
    show off 0 + 1 * z.val = n; omega
  have e1 : (((Rect.unit (s := S12x640x256) off ![1, 640, 256] inb).emb (ix3 z o l)) 1) = o := by
    refine Fin.ext ?_
    show off 1 + 1 * o.val = o.val; omega
  have e2 : (((Rect.unit (s := S12x640x256) off ![1, 640, 256] inb).emb (ix3 z o l)) 2).val = l.val := by
    show off 2 + 1 * l.val = l.val; omega
  unfold WT
  rw [e0, e1, e2, show n / 4 = ky by omega, show n % 4 = s by omega]

/-- A stored tap is its slot. -/
theorem tap_slot (ky kx : Fin 3) (s : ℕ) (hs : ∀ (W : ℕ → ℕ → EReal) (l : ℕ), slotW W s l = W kx.val l) (z : Fin 1) (o : Fin 640) (l : Fin 256) :
    k0_pay12 (F := Ideal) (k0_pay11 (F := Ideal) (wr arg3 harg3 x2 ky kx) (sr arg4 harg4 x3 ky kx)) (ix3 z o l)
      = slotW (fun kx ch => WV x2 x3 ky.val kx ch o) s l.val := by
  rw [tap_apply, hs, wval_WV]

/-- The stored last channels are slot 3. -/
theorem tail_slot (ky : Fin 3) (z : Fin 1) (o : Fin 640) (l : Fin 256) :
    wtail (F := Ideal) (wr arg3 harg3 x2 ky 1) (wr arg3 harg3 x2 ky 2) (wr arg3 harg3 x2 ky 0) (sr arg4 harg4 x3 ky 1) (sr arg4 harg4 x3 ky 2) (sr arg4 harg4 x3 ky 0) (ix3 z o l)
      = slotW (fun kx ch => WV x2 x3 ky.val kx ch o) 3 l.val := by
  rw [tail_apply]
  simp only [wval_WV]
  rfl

/-- The first point's stores of the weights agree with `WT`. -/
theorem wt_agrees : ∀ p ∈ kernelRun0_A.sl.HS2_12 (F := Ideal) c arg3 harg3 arg4 harg4 x2 x3, Agrees (WT x2 x3) p := by
  unfold kernelRun0_A.sl.HS2_12
  intro p hp
  rcases List.mem_cons.1 hp with rfl | hp
  · exact wt_piece x2 x3 11 2 3 _ _ rfl rfl rfl rfl (by omega) _ (fun z o l => (congrFun (w11 c arg3 harg3 arg4 harg4 x2 x3) (ix3 z o l)).trans (tail_slot arg3 harg3 arg4 harg4 x2 x3 2 z o l))
  rcases List.mem_cons.1 hp with rfl | hp
  · exact wt_piece x2 x3 10 2 2 _ _ rfl rfl rfl rfl (by omega) _ (fun z o l => (congrFun (w10 c arg3 harg3 arg4 harg4 x2 x3) (ix3 z o l)).trans (tap_slot arg3 harg3 arg4 harg4 x2 x3 2 0 2 (fun _ _ => rfl) z o l))
  rcases List.mem_cons.1 hp with rfl | hp
  · exact wt_piece x2 x3 9 2 1 _ _ rfl rfl rfl rfl (by omega) _ (fun z o l => (congrFun (w9 c arg3 harg3 arg4 harg4 x2 x3) (ix3 z o l)).trans (tap_slot arg3 harg3 arg4 harg4 x2 x3 2 2 1 (fun _ _ => rfl) z o l))
  rcases List.mem_cons.1 hp with rfl | hp
  · exact wt_piece x2 x3 8 2 0 _ _ rfl rfl rfl rfl (by omega) _ (fun z o l => (congrFun (w8 c arg3 harg3 arg4 harg4 x2 x3) (ix3 z o l)).trans (tap_slot arg3 harg3 arg4 harg4 x2 x3 2 1 0 (fun _ _ => rfl) z o l))
  rcases List.mem_cons.1 hp with rfl | hp
  · exact wt_piece x2 x3 7 1 3 _ _ rfl rfl rfl rfl (by omega) _ (fun z o l => (congrFun (w7 c arg3 harg3 arg4 harg4 x2 x3) (ix3 z o l)).trans (tail_slot arg3 harg3 arg4 harg4 x2 x3 1 z o l))
  rcases List.mem_cons.1 hp with rfl | hp
  · exact wt_piece x2 x3 6 1 2 _ _ rfl rfl rfl rfl (by omega) _ (fun z o l => (congrFun (w6 c arg3 harg3 arg4 harg4 x2 x3) (ix3 z o l)).trans (tap_slot arg3 harg3 arg4 harg4 x2 x3 1 0 2 (fun _ _ => rfl) z o l))
  rcases List.mem_cons.1 hp with rfl | hp
  · exact wt_piece x2 x3 5 1 1 _ _ rfl rfl rfl rfl (by omega) _ (fun z o l => (congrFun (w5 c arg3 harg3 arg4 harg4 x2 x3) (ix3 z o l)).trans (tap_slot arg3 harg3 arg4 harg4 x2 x3 1 2 1 (fun _ _ => rfl) z o l))
  rcases List.mem_cons.1 hp with rfl | hp
  · exact wt_piece x2 x3 4 1 0 _ _ rfl rfl rfl rfl (by omega) _ (fun z o l => (congrFun (w4 c arg3 harg3 arg4 harg4 x2 x3) (ix3 z o l)).trans (tap_slot arg3 harg3 arg4 harg4 x2 x3 1 1 0 (fun _ _ => rfl) z o l))
  rcases List.mem_cons.1 hp with rfl | hp
  · exact wt_piece x2 x3 3 0 3 _ _ rfl rfl rfl rfl (by omega) _ (fun z o l => (congrFun (w3 c arg3 harg3 arg4 harg4 x2 x3) (ix3 z o l)).trans (tail_slot arg3 harg3 arg4 harg4 x2 x3 0 z o l))
  rcases List.mem_cons.1 hp with rfl | hp
  · exact wt_piece x2 x3 2 0 2 _ _ rfl rfl rfl rfl (by omega) _ (fun z o l => (congrFun (w2 c arg3 harg3 arg4 harg4 x2 x3) (ix3 z o l)).trans (tap_slot arg3 harg3 arg4 harg4 x2 x3 0 0 2 (fun _ _ => rfl) z o l))
  rcases List.mem_cons.1 hp with rfl | hp
  · exact wt_piece x2 x3 1 0 1 _ _ rfl rfl rfl rfl (by omega) _ (fun z o l => (congrFun (w1 c arg3 harg3 arg4 harg4 x2 x3) (ix3 z o l)).trans (tap_slot arg3 harg3 arg4 harg4 x2 x3 0 2 1 (fun _ _ => rfl) z o l))
  rcases List.mem_cons.1 hp with rfl | hp
  · exact wt_piece x2 x3 0 0 0 _ _ rfl rfl rfl rfl (by omega) _ (fun z o l => (congrFun (w0 c arg3 harg3 arg4 harg4 x2 x3) (ix3 z o l)).trans (tap_slot arg3 harg3 arg4 harg4 x2 x3 0 1 0 (fun _ _ => rfl) z o l))
  exact absurd hp List.not_mem_nil

/-- The weights' buffer after the first point's stores. -/
theorem read_wt {κ : Kind} {sp : Space} (v : View sig κ sp S12x640x256 .bf16) (f : v.ty.Contents (Elt Ideal)) :
    v.read (Elt Ideal) (v.writes (Elt Ideal) f (kernelRun0_A.sl.HS2_12 (F := Ideal) c arg3 harg3 arg4 harg4 x2 x3)) = WT x2 x3 := by
  have hc : ∀ y, ∃ p ∈ kernelRun0_A.sl.HS2_12 (F := Ideal) c arg3 harg3 arg4 harg4 x2 x3, y ∈ p.1.set :=
    fun y => View.cover_of_tiledBy _ ![1, 640, 256] (by sl_kernel_rfl) y
  rw [View.read_writes_eq_canon _ _ _ hc]
  funext y
  have h := View.canon_append_of_pieces (WT x2 x3) [] _ (wt_agrees c arg3 harg3 arg4 harg4 x2 x3) y (hc y)
  rwa [List.append_nil] at h

end Cert.KernelIdeal.Val
end
-- ==== Proof.Tile.lean ====
/- One trip of the second loop: twelve products of the buffers' columns with the weights, the bias, and the transpose; then the whole result block. -/
module

public import proofs.«01_k».proof.Proof.WeightVal
public import Idealize.ShloMosaic.Lib.Pointwise

@[expose] public section

set_option maxRecDepth 16384
noncomputable section
namespace Cert.KernelIdeal.Val
open Cert.KernelIdeal Cert.KernelIdeal.Gen
open Idealize.ShloMosaic Idealize.ShloMosaic.TcCoe Idealize.ShloMosaic.Tactic
open Idealize.SL.Sem

/-- One product of the second loop, at output channel `o` and pixel `p`. -/
def dotv (w : Vec Ideal S1x640x256 .bf16) (x : Vec Ideal S1x256x256 .bf16) (o : Fin 640) (p : Fin 256) : EReal :=
  ∑ l : Fin 256, w (ix3 0 o l) * x (ix3 0 p l)

section
variable (b : Vec Ideal S640x1 .f32) (a : FVec Ideal S640x256 .f32) (x0 x1 x2 x3 : Vec Ideal S1x256x256 .bf16) (w0 w1 w2 w3 : Vec Ideal S1x640x256 .bf16) (p : Fin 256) (o : Fin 640)

/-- Three products added. -/
theorem pay155_at : k0_pay155 (F := Ideal) x0 w0 x1 w1 x2 w2 (ix2 o p) = dotv w0 x0 o p + dotv w1 x1 o p + dotv w2 x2 o p := by
  unfold dotv
  unfold_payloads
  pointwise

/-- Four more products added. -/
theorem pay157_at : k0_pay157 (F := Ideal) a (k0_pay156 x0) w0 x1 w1 x2 w2 x3 w3 (ix2 o p)
    = a (ix2 o p) + dotv w0 x0 o p + dotv w1 x1 o p + dotv w2 x2 o p + dotv w3 x3 o p := by
  unfold dotv
  unfold_payloads
  pointwise

/-- Four more products added. -/
theorem pay158_at : k0_pay158 (F := Ideal) a x0 w0 x1 w1 x2 w2 x3 w3 (ix2 o p)
    = a (ix2 o p) + dotv w0 x0 o p + dotv w1 x1 o p + dotv w2 x2 o p + dotv w3 x3 o p := by
  unfold dotv
  unfold_payloads
  pointwise

/-- The last product and the bias added, and transposed. -/
theorem pay6_at : k0_pay6 (F := Ideal) b a x0 w0 (ix2 p o) = a (ix2 o p) + dotv w0 x0 o p + b (ix2 o 0) := by
  unfold dotv
  unfold_payloads
  pointwise
end

/-- The even buffer at slot `s`, column `q`. -/
def xe (E : Vec Ideal S4x1280x256 .bf16) (s q : ℕ) (l : Fin 256) : EReal := if h : s < 4 ∧ q < 1280 then E (ix3 ⟨s, h.1⟩ ⟨q, h.2⟩ l) else 0
/-- The odd buffer at slot `s`, column `q`. -/
def xo (O : Vec Ideal S4x1360x256 .bf16) (s q : ℕ) (l : Fin 256) : EReal := if h : s < 4 ∧ q < 1360 then O (ix3 ⟨s, h.1⟩ ⟨q, h.2⟩ l) else 0

/-- The lanes a product reads. -/
def xsel (E : Vec Ideal S4x1280x256 .bf16) (O : Vec Ideal S4x1360x256 .bf16) (n q : ℕ) (l : Fin 256) : EReal :=
  if n < 4 then xo O n q l else if n < 8 then xe E (n - 4) q l else xo O (n - 8) (80 + q) l

/-- Product `n` of the twelve of an output. -/
def dN (E : Vec Ideal S4x1280x256 .bf16) (O : Vec Ideal S4x1360x256 .bf16) (Wt : Vec Ideal S12x640x256 .bf16) (q : ℕ) (o : Fin 640) (n : Fin 12) : EReal :=
  ∑ l : Fin 256, Wt (ix3 n o l) * xsel E O n.val q l

/-- An output of a step: the twelve products, then the bias. -/
def YV (E : Vec Ideal S4x1280x256 .bf16) (O : Vec Ideal S4x1360x256 .bf16) (Wt : Vec Ideal S12x640x256 .bf16) (b : Vec Ideal S640x1 .f32) : Vec Ideal S1280x640 .bf16 :=
  fun y => dN E O Wt (y 0).val (y 1) 0 + dN E O Wt (y 0).val (y 1) 1 + dN E O Wt (y 0).val (y 1) 2 + dN E O Wt (y 0).val (y 1) 3
    + dN E O Wt (y 0).val (y 1) 4 + dN E O Wt (y 0).val (y 1) 5 + dN E O Wt (y 0).val (y 1) 6 + dN E O Wt (y 0).val (y 1) 7
    + dN E O Wt (y 0).val (y 1) 8 + dN E O Wt (y 0).val (y 1) 9 + dN E O Wt (y 0).val (y 1) 10 + dN E O Wt (y 0).val (y 1) 11 + b (ix2 (y 1) 0)

/-- The second loop has five trips. -/
theorem trips2 : k0_t2_loop.trips = 5 := by decide +kernel

/-- A load of a slot of the weights' buffer. -/
theorem readW (r : Memref sig .tc .vmem S12x640x256 .bf16) (hr : r.IsWhole) (Wt : Vec Ideal S12x640x256 .bf16) (n : Fin 12)
    (off : Fin 3 → ℕ) (inb : ∀ a, off a + S1x640x256.size a ≤ S12x640x256.size a) (h0 : off 0 = n.val) (h1 : off 1 = 0) (h2 : off 2 = 0) (o : Fin 640) (l : Fin 256) :
    View.readAt (Elt Ideal) r.view (Rect.unit (s := S12x640x256) off S1x640x256.size inb).toLoadRect (hr.unread Wt) (ix3 0 o l) = Wt (ix3 n o l) := by
  simp only [View.readAt_eq_ld, hr.read_unread]
  refine congrArg Wt ?_
  funext a
  match a with
  | ⟨0, _⟩ => exact Fin.ext (by show off 0 + 1 * 0 = n.val; omega)
  | ⟨1, _⟩ => exact Fin.ext (by show off 1 + 1 * o.val = o.val; omega)
  | ⟨2, _⟩ => exact Fin.ext (by show off 2 + 1 * l.val = l.val; omega)

/-- A load of 256 columns of the even rows' buffer. -/
theorem readE (r : Memref sig .tc .vmem S4x1280x256 .bf16) (hr : r.IsWhole) (E : Vec Ideal S4x1280x256 .bf16) (s q : ℕ)
    (off : Fin 3 → ℕ) (inb : ∀ a, off a + S1x256x256.size a ≤ S4x1280x256.size a) (h0 : off 0 = s) (h1 : off 1 = q) (h2 : off 2 = 0) (p : Fin 256) (l : Fin 256) :
    View.readAt (Elt Ideal) r.view (Rect.unit (s := S4x1280x256) off S1x256x256.size inb).toLoadRect (hr.unread E) (ix3 0 p l) = xe E s (q + p.val) l := by
  have i0 : off 0 + 1 ≤ 4 := inb 0
  have i1 : off 1 + 256 ≤ 1280 := inb 1
  have hp := p.isLt
  simp only [View.readAt_eq_ld, hr.read_unread]
  unfold xe
  rw [dif_pos ⟨by omega, by omega⟩]
  refine congrArg E ?_
  funext a
  match a with
  | ⟨0, _⟩ => exact Fin.ext (by show off 0 + 1 * 0 = s; omega)
  | ⟨1, _⟩ => exact Fin.ext (by show off 1 + 1 * p.val = q + p.val; omega)
  | ⟨2, _⟩ => exact Fin.ext (by show off 2 + 1 * l.val = l.val; omega)

/-- A load of 256 columns of the odd rows' buffer. -/
theorem readO (r : Memref sig .tc .vmem S4x1360x256 .bf16) (hr : r.IsWhole) (O : Vec Ideal S4x1360x256 .bf16) (s q : ℕ)
    (off : Fin 3 → ℕ) (inb : ∀ a, off a + S1x256x256.size a ≤ S4x1360x256.size a) (h0 : off 0 = s) (h1 : off 1 = q) (h2 : off 2 = 0) (p : Fin 256) (l : Fin 256) :
    View.readAt (Elt Ideal) r.view (Rect.unit (s := S4x1360x256) off S1x256x256.size inb).toLoadRect (hr.unread O) (ix3 0 p l) = xo O s (q + p.val) l := by
  have i0 : off 0 + 1 ≤ 4 := inb 0
  have i1 : off 1 + 256 ≤ 1360 := inb 1
  have hp := p.isLt
  simp only [View.readAt_eq_ld, hr.read_unread]
  unfold xo
  rw [dif_pos ⟨by omega, by omega⟩]
  refine congrArg O ?_
  funext a
  match a with
  | ⟨0, _⟩ => exact Fin.ext (by show off 0 + 1 * 0 = s; omega)
  | ⟨1, _⟩ => exact Fin.ext (by show off 1 + 1 * p.val = q + p.val; omega)
  | ⟨2, _⟩ => exact Fin.ext (by show off 2 + 1 * l.val = l.val; omega)

/-- Where a trip reads or stores its columns. -/
theorem off19_0 : ∀ k : Fin k0_t2_loop.trips, k0_off19 k 0#32 1 = 256 * k.val := by decide +kernel
/-- Where a trip reads or stores its columns. -/
theorem off19_80 : ∀ k : Fin k0_t2_loop.trips, k0_off19 k 80#32 1 = 256 * k.val + 80 := by decide +kernel
/-- Where a trip reads or stores its columns. -/
theorem off20_0 : ∀ k : Fin k0_t2_loop.trips, k0_off20 k 0#32 1 = 256 * k.val := by decide +kernel
/-- Where a trip reads or stores its columns. -/
theorem off20_80 : ∀ k : Fin k0_t2_loop.trips, k0_off20 k 80#32 1 = 256 * k.val + 80 := by decide +kernel
/-- Where a trip reads or stores its columns. -/
theorem off21_0 : ∀ k : Fin k0_t2_loop.trips, k0_off21 k 0#32 1 = 256 * k.val := by decide +kernel
/-- Where a trip reads or stores its columns. -/
theorem off21_80 : ∀ k : Fin k0_t2_loop.trips, k0_off21 k 80#32 1 = 256 * k.val + 80 := by decide +kernel
/-- Where a trip reads or stores its columns. -/
theorem off22_0 : ∀ k : Fin k0_t2_loop.trips, k0_off22 k 0#32 1 = 256 * k.val := by decide +kernel
/-- Where a trip reads or stores its columns. -/
theorem off22_80 : ∀ k : Fin k0_t2_loop.trips, k0_off22 k 80#32 1 = 256 * k.val + 80 := by decide +kernel
/-- Where a trip reads or stores its columns. -/
theorem off23_0 : ∀ k : Fin k0_t2_loop.trips, k0_off23 k 1 = 256 * k.val := by decide +kernel
/-- Where a trip reads or stores its columns. -/
theorem off24_0 : ∀ k : Fin k0_t2_loop.trips, k0_off24 k 1 = 256 * k.val := by decide +kernel
/-- Where a trip reads or stores its columns. -/
theorem off25_0 : ∀ k : Fin k0_t2_loop.trips, k0_off25 k 1 = 256 * k.val := by decide +kernel
/-- Where a trip reads or stores its columns. -/
theorem off26_0 : ∀ k : Fin k0_t2_loop.trips, k0_off26 k 1 = 256 * k.val := by decide +kernel
/-- Where a trip reads or stores its columns. -/
theorem off27_0 : ∀ k : Fin k0_t2_loop.trips, k0_off27 k 0 = 256 * k.val := by decide +kernel

variable (c : Dev nD) (i : grid0.Coords)
  (arg1 : Memref sig .tc .vmem S5120x320 .i8) (harg1 : arg1.IsWhole) (arg2 : Memref sig .tc .vmem S5120x10 .i8) (harg2 : arg2.IsWhole)
  (arg3 : Memref sig .tc .vmem S3x3x320x640 .fp8e4m3) (harg3 : arg3.IsWhole) (arg4 : Memref sig .tc .vmem S3x3x10x640 .i8) (harg4 : arg4.IsWhole)
  (arg5 : Memref sig .tc .vmem S640x1 .f32) (harg5 : arg5.IsWhole) (arg6 : Memref sig .tc .vmem S1280x640 .bf16) (harg6 : arg6.IsWhole)
  (arg7 : Memref sig .tc .vmem S4x1280x256 .bf16) (harg7 : arg7.IsWhole) (arg8 : Memref sig .tc .vmem S4x1360x256 .bf16) (harg8 : arg8.IsWhole)
  (arg9 : Memref sig .tc .vmem S12x640x256 .bf16) (harg9 : arg9.IsWhole)
variable (E : Vec Ideal S4x1280x256 .bf16) (O : Vec Ideal S4x1360x256 .bf16) (Wt : Vec Ideal S12x640x256 .bf16) (b : Vec Ideal S640x1 .f32)

/-- The store of a trip of the second loop agrees with `YV`. -/
theorem trip_y (k : Fin k0_t2_loop.trips) :
    ∀ p ∈ (trip_k0_t2 (F := Ideal) Variants.none c none i arg1 harg1 arg2 harg2 arg3 harg3 arg4 harg4 arg5 harg5 arg6 harg6 arg7 harg7 arg8 harg8 arg9 harg9
      b (harg7.unread E) (harg8.unread O) (harg9.unread Wt) k).1, Agrees (YV E O Wt b) p := by
  unfold trip_k0_t2
  dsimp only
  intro p hp
  obtain rfl := List.mem_singleton.1 hp
  intro y
  obtain ⟨q, o, rfl⟩ : ∃ (q : Fin 256) (o : Fin 640), y = ix2 q o := ⟨y 0, y 1, eq_ix2 y⟩
  have e0 : ∀ inb, (((Rect.unit (s := S1280x640) (k0_off27 k) ![256, 640] inb).emb (ix2 q o)) 0).val = 256 * k.val + q.val := by
    intro inb; show k0_off27 k 0 + 1 * q.val = _; rw [off27_0]; omega
  have e1 : ∀ inb, (((Rect.unit (s := S1280x640) (k0_off27 k) ![256, 640] inb).emb (ix2 q o)) 1) = o := by
    intro inb; refine Fin.ext ?_
    show 0 + 1 * o.val = o.val; omega
  refine (pay6_at _ _ _ _ q o).trans ?_
  unfold trip_k0_t2.sl.r_3
  rw [pay158_at]
  unfold trip_k0_t2.sl.r_2 trip_k0_t2.sl.r_1
  rw [pay157_at]
  unfold trip_k0_t2.sl.r
  rw [pay155_at]
  unfold YV
  rw [e0, e1]
  refine congrArg₂ (· + ·) ?_ rfl
  refine congrArg₂ (· + ·) ?_ (Finset.sum_congr rfl fun l _ => congrArg₂ (· * ·) (readW arg9 harg9 Wt 11 _ _ rfl rfl rfl o l) ((readO arg8 harg8 O 3 (256 * k.val + 80) _ _ rfl (off22_80 k) rfl q l).trans (congrArg (fun t => xo O 3 t l) (by omega : 256 * k.val + 80 + q.val = 80 + (256 * k.val + q.val)))))
  refine congrArg₂ (· + ·) ?_ (Finset.sum_congr rfl fun l _ => congrArg₂ (· * ·) (readW arg9 harg9 Wt 10 _ _ rfl rfl rfl o l) ((readO arg8 harg8 O 2 (256 * k.val + 80) _ _ rfl (off21_80 k) rfl q l).trans (congrArg (fun t => xo O 2 t l) (by omega : 256 * k.val + 80 + q.val = 80 + (256 * k.val + q.val)))))
  refine congrArg₂ (· + ·) ?_ (Finset.sum_congr rfl fun l _ => congrArg₂ (· * ·) (readW arg9 harg9 Wt 9 _ _ rfl rfl rfl o l) ((readO arg8 harg8 O 1 (256 * k.val + 80) _ _ rfl (off20_80 k) rfl q l).trans (congrArg (fun t => xo O 1 t l) (by omega : 256 * k.val + 80 + q.val = 80 + (256 * k.val + q.val)))))
  refine congrArg₂ (· + ·) ?_ (Finset.sum_congr rfl fun l _ => congrArg₂ (· * ·) (readW arg9 harg9 Wt 8 _ _ rfl rfl rfl o l) ((readO arg8 harg8 O 0 (256 * k.val + 80) _ _ rfl (off19_80 k) rfl q l).trans (congrArg (fun t => xo O 0 t l) (by omega : 256 * k.val + 80 + q.val = 80 + (256 * k.val + q.val)))))
  refine congrArg₂ (· + ·) ?_ (Finset.sum_congr rfl fun l _ => congrArg₂ (· * ·) (readW arg9 harg9 Wt 7 _ _ rfl rfl rfl o l) (readE arg7 harg7 E 3 (256 * k.val) _ _ rfl (off26_0 k) rfl q l))
  refine congrArg₂ (· + ·) ?_ (Finset.sum_congr rfl fun l _ => congrArg₂ (· * ·) (readW arg9 harg9 Wt 6 _ _ rfl rfl rfl o l) (readE arg7 harg7 E 2 (256 * k.val) _ _ rfl (off25_0 k) rfl q l))
  refine congrArg₂ (· + ·) ?_ (Finset.sum_congr rfl fun l _ => congrArg₂ (· * ·) (readW arg9 harg9 Wt 5 _ _ rfl rfl rfl o l) (readE arg7 harg7 E 1 (256 * k.val) _ _ rfl (off24_0 k) rfl q l))
  refine congrArg₂ (· + ·) ?_ (Finset.sum_congr rfl fun l _ => congrArg₂ (· * ·) (readW arg9 harg9 Wt 4 _ _ rfl rfl rfl o l) (readE arg7 harg7 E 0 (256 * k.val) _ _ rfl (off23_0 k) rfl q l))
  refine congrArg₂ (· + ·) ?_ (Finset.sum_congr rfl fun l _ => congrArg₂ (· * ·) (readW arg9 harg9 Wt 3 _ _ rfl rfl rfl o l) (readO arg8 harg8 O 3 (256 * k.val) _ _ rfl (off22_0 k) rfl q l))
  refine congrArg₂ (· + ·) ?_ (Finset.sum_congr rfl fun l _ => congrArg₂ (· * ·) (readW arg9 harg9 Wt 2 _ _ rfl rfl rfl o l) (readO arg8 harg8 O 2 (256 * k.val) _ _ rfl (off21_0 k) rfl q l))
  refine congrArg₂ (· + ·) ?_ (Finset.sum_congr rfl fun l _ => congrArg₂ (· * ·) (readW arg9 harg9 Wt 1 _ _ rfl rfl rfl o l) (readO arg8 harg8 O 1 (256 * k.val) _ _ rfl (off20_0 k) rfl q l))
  exact (Finset.sum_congr rfl fun l _ => congrArg₂ (· * ·) (readW arg9 harg9 Wt 0 _ _ rfl rfl rfl o l) (readO arg8 harg8 O 0 (256 * k.val) _ _ rfl (off19_0 k) rfl q l))

/-- The second loop's stores up to a trip agree with `YV`. -/
theorem pb_y (n : ℕ) (hn : n ≤ k0_t2_loop.trips) :
    ∀ p ∈ (pb_k0_t2 (F := Ideal) Variants.none c none i arg1 harg1 arg2 harg2 arg3 harg3 arg4 harg4 arg5 harg5 arg6 harg6 arg7 harg7 arg8 harg8 arg9 harg9
      b (harg7.unread E) (harg8.unread O) (harg9.unread Wt) n), Agrees (YV E O Wt b) p := by
  induction n with
  | zero => exact fun p hp => absurd hp List.not_mem_nil
  | succ n ih =>
    have ih := ih (by omega)
    have e := pb_k0_t2_succ (F := Ideal) Variants.none c none i arg1 harg1 arg2 harg2 arg3 harg3 arg4 harg4 arg5 harg5 arg6 harg6 arg7 harg7 arg8 harg8 arg9 harg9
      b (harg7.unread E) (harg8.unread O) (harg9.unread Wt) ⟨n, hn⟩
    intro p hp
    have hp : p ∈ (_ : List _) := (congrArg (fun q => p ∈ q) e).mp hp
    rcases List.mem_append.1 hp with h | h
    · unfold tripL_k0_t2 at h
      exact trip_y c i arg1 harg1 arg2 harg2 arg3 harg3 arg4 harg4 arg5 harg5 arg6 harg6 arg7 harg7 arg8 harg8 arg9 harg9 E O Wt b ⟨n, hn⟩ p h
    · exact ih p h

/-- What a memref holds after the second loop's stores. -/
theorem read_y {κ : Kind} {sp : Space} (v : View sig κ sp S1280x640 .bf16) (f : v.ty.Contents (Elt Ideal)) :
    v.read (Elt Ideal) (v.writes (Elt Ideal) f (pb_k0_t2 (F := Ideal) Variants.none c none i arg1 harg1 arg2 harg2 arg3 harg3 arg4 harg4 arg5 harg5 arg6 harg6 arg7 harg7 arg8 harg8 arg9 harg9
      b (harg7.unread E) (harg8.unread O) (harg9.unread Wt) (Scf.trips k0_t2_loop.lb k0_t2_loop.ub k0_t2_loop.st))) = YV E O Wt b := by
  have hc : ∀ y, ∃ p ∈ (pb_k0_t2 (F := Ideal) Variants.none c none i arg1 harg1 arg2 harg2 arg3 harg3 arg4 harg4 arg5 harg5 arg6 harg6 arg7 harg7 arg8 harg8 arg9 harg9
      b (harg7.unread E) (harg8.unread O) (harg9.unread Wt) (Scf.trips k0_t2_loop.lb k0_t2_loop.ub k0_t2_loop.st)), y ∈ p.1.set :=
    fun y => View.cover_of_tiledBy _ ![256, 640] (by sl_kernel_rfl) y
  rw [View.read_writes_eq_canon _ _ _ hc]
  funext y
  have h := View.canon_append_of_pieces (YV E O Wt b) [] _ (pb_y c i arg1 harg1 arg2 harg2 arg3 harg3 arg4 harg4 arg5 harg5 arg6 harg6 arg7 harg7 arg8 harg8 arg9 harg9 E O Wt b _ le_rfl) y (hc y)
  rwa [List.append_nil] at h

end Cert.KernelIdeal.Val
end
-- ==== Proof.Step.lean ====
/- One grid point: what its result block and its carried buffers hold, in each of the three cases. -/
module

public import proofs.«01_k».proof.Proof.Tile

@[expose] public section

set_option maxRecDepth 16384
noncomputable section
namespace Cert.KernelIdeal.Val
open Cert.KernelIdeal Cert.KernelIdeal.Gen
open Idealize.ShloMosaic Idealize.ShloMosaic.TcCoe Idealize.ShloMosaic.Tactic
open Idealize.SL.Sem

/-- The odd rows before an image's first: zeros. -/
def top0 : Vec Ideal S4x80x256 .bf16 := fun _ => 0
/-- The odd rows before a later part's first: the last ones of the part before. -/
def topL (O : Vec Ideal S4x1360x256 .bf16) : Vec Ideal S4x80x256 .bf16 := fun y => O (ix3 (y 0) ⟨1280 + (y 1).val, Nat.add_lt_add_left (y 1).isLt 1280⟩ (y 2))

/-- The top padding is zero. -/
theorem pay3_eq : k0_pay3 (F := Ideal) = top0 := by
  funext y
  obtain ⟨z, j, l, rfl⟩ : ∃ (z : Fin 4) (j : Fin 80) (l : Fin 256), y = ix3 z j l := ⟨y 0, y 1, y 2, eq_ix3 y⟩
  unfold_payloads
  pointwise
  rfl

variable (c : Dev nD) (i : grid0.Coords)
  (arg1 : Memref sig .tc .vmem S5120x320 .i8) (harg1 : arg1.IsWhole) (arg2 : Memref sig .tc .vmem S5120x10 .i8) (harg2 : arg2.IsWhole)
  (arg3 : Memref sig .tc .vmem S3x3x320x640 .fp8e4m3) (harg3 : arg3.IsWhole) (arg4 : Memref sig .tc .vmem S3x3x10x640 .i8) (harg4 : arg4.IsWhole)
  (arg5 : Memref sig .tc .vmem S640x1 .f32) (harg5 : arg5.IsWhole) (arg6 : Memref sig .tc .vmem S1280x640 .bf16) (harg6 : arg6.IsWhole)
  (arg7 : Memref sig .tc .vmem S4x1280x256 .bf16) (harg7 : arg7.IsWhole) (arg8 : Memref sig .tc .vmem S4x1360x256 .bf16) (harg8 : arg8.IsWhole)
  (arg9 : Memref sig .tc .vmem S12x640x256 .bf16) (harg9 : arg9.IsWhole)
variable (x0 : Vec Ideal S5120x320 .i8) (x1 : Vec Ideal S5120x10 .i8) (x2 : Vec Ideal S3x3x320x640 .fp8e4m3) (x3 : Vec Ideal S3x3x10x640 .i8) (x4 : Vec Ideal S640x1 .f32)
  (xs1 : Vec Ideal S4x1360x256 .bf16) (xs2 : Vec Ideal S12x640x256 .bf16)

/-- The carried row is the last eighty columns of the buffer before. -/
theorem pay4_eq : k0_pay4 (F := Ideal) (View.readAt (Elt Ideal) arg8.view (Rect.unit (s := S4x1360x256) ![0, 1280, 0] ![4, 80, 256] inb_S4x1360x256_S4x80x256_0_1280_0).toLoadRect (harg8.unread xs1)) = topL xs1 := by
  funext y
  obtain ⟨z, j, l, rfl⟩ : ∃ (z : Fin 4) (j : Fin 80) (l : Fin 256), y = ix3 z j l := ⟨y 0, y 1, y 2, eq_ix3 y⟩
  unfold k0_pay4
  rw [shapeCast_self]
  simp only [View.readAt_eq_ld, harg8.read_unread]
  refine congrArg xs1 ?_
  funext a
  match a with
  | ⟨0, _⟩ => exact Fin.ext (by show 0 + 1 * z.val = z.val; omega)
  | ⟨1, _⟩ => exact Fin.ext (by show 1280 + 1 * j.val = 1280 + j.val; omega)
  | ⟨2, _⟩ => exact Fin.ext (by show 0 + 1 * l.val = l.val; omega)

/-- The bias as loaded. -/
theorem bias_eq : View.readAt (Elt Ideal) arg5.view (Rect.unit (s := S640x1) ![0, 0] ![640, 1] inb_S640x1_S640x1_0_0).toLoadRect (harg5.unread x4) = x4 := by
  simp only [View.readAt_eq_ld, harg5.read_unread]
  funext y
  refine congrArg x4 ?_
  funext a
  match a with
  | ⟨0, _⟩ => exact Fin.ext (by show 0 + 1 * (y 0).val = (y 0).val; omega)
  | ⟨1, _⟩ => exact Fin.ext (by show 0 + 1 * (y 1).val = (y 1).val; omega)

/-- The result block of the first point. -/
theorem out_A (hc0 : cond0_0 i) (hc1 : cond0_1 i) (hc2 : ¬cond0_2 i) :
    out0_A_5 (F := Ideal) c i arg1 harg1 arg2 harg2 arg3 harg3 arg4 harg4 arg5 harg5 arg6 harg6 arg7 harg7 arg8 harg8 arg9 harg9 hc0 hc1 hc2 x0 x1 x2 x3 x4 = YV (EV x0 x1) (OD x0 x1 top0) (WT x2 x3) x4 := by
  unfold out0_A_5
  unfold kernelRun0_A
  dsimp only
  have e7 := canon_ev c i arg1 harg1 arg2 harg2 arg3 harg3 arg4 harg4 arg5 harg5 arg6 harg6 arg7 harg7 arg8 harg8 arg9 harg9 x0 x1
  have e8 := canon_od c i arg1 harg1 arg2 harg2 arg3 harg3 arg4 harg4 arg5 harg5 arg6 harg6 arg7 harg7 arg8 harg8 arg9 harg9 x0 x1 top0
  have e9 := harg9.eq_unread (read_wt c arg3 harg3 arg4 harg4 x2 x3 arg9.view arg9.view.junk)
  rw [bias_eq, pay3_eq]
  refine Eq.trans ?_ (read_y c i arg1 harg1 arg2 harg2 arg3 harg3 arg4 harg4 arg5 harg5 arg6 harg6 arg7 harg7 arg8 harg8 arg9 harg9 (EV x0 x1) (OD x0 x1 top0) (WT x2 x3) x4 VO0_5 VO0_5.junk)
  rw [← e8, ← e7, ← e9]

/-- The odd rows' buffer after the first point. -/
theorem sout_A (hc0 : cond0_0 i) (hc1 : cond0_1 i) (hc2 : ¬cond0_2 i) :
    sout0_A_1 (F := Ideal) c i arg1 harg1 arg2 harg2 arg3 harg3 arg4 harg4 arg5 harg5 arg6 harg6 arg7 harg7 arg8 harg8 arg9 harg9 hc0 hc1 hc2 x0 x1 x2 x3 x4 = OD x0 x1 top0 := by
  have e8 := canon_od c i arg1 harg1 arg2 harg2 arg3 harg3 arg4 harg4 arg5 harg5 arg6 harg6 arg7 harg7 arg8 harg8 arg9 harg9 x0 x1 top0
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 hc2 x0 x1 x2 x3 x4)]
  unfold kernelRun0_A
  dsimp only
  rw [pay3_eq]
  exact e8

/-- The result block of a point that is not an image's first. -/
theorem out_B (hc0 : ¬cond0_0 i) (hc1 : ¬cond0_1 i) (hc2 : cond0_2 i) :
    out0_B_5 (F := Ideal) c i arg1 harg1 arg2 harg2 arg3 harg3 arg4 harg4 arg5 harg5 arg6 harg6 arg7 harg7 arg8 harg8 arg9 harg9 hc0 hc1 hc2 x0 x1 x2 x3 x4 xs1 xs2 = YV (EV x0 x1) (OD x0 x1 (topL xs1)) xs2 x4 := by
  unfold out0_B_5
  unfold kernelRun0_B
  dsimp only
  have e7 := canon_ev c i arg1 harg1 arg2 harg2 arg3 harg3 arg4 harg4 arg5 harg5 arg6 harg6 arg7 harg7 arg8 harg8 arg9 harg9 x0 x1
  have e8 := canon_od c i arg1 harg1 arg2 harg2 arg3 harg3 arg4 harg4 arg5 harg5 arg6 harg6 arg7 harg7 arg8 harg8 arg9 harg9 x0 x1 (topL xs1)
  have f8 := fill8 (F := Ideal) c i arg1 harg1 arg2 harg2 arg3 harg3 arg4 harg4 arg5 harg5 arg6 harg6 arg7 harg7 arg8 harg8 arg9 harg9 (harg1.unread x0) (harg2.unread x1) (topL xs1) (harg8.unread xs1)
  rw [e8] at f8
  rw [bias_eq, pay4_eq]
  refine Eq.trans ?_ (read_y c i arg1 harg1 arg2 harg2 arg3 harg3 arg4 harg4 arg5 harg5 arg6 harg6 arg7 harg7 arg8 harg8 arg9 harg9 (EV x0 x1) (OD x0 x1 (topL xs1)) xs2 x4 VO0_5 VO0_5.junk)
  rw [← f8, ← e7]

/-- The odd rows' buffer after a point that is not an image's first. -/
theorem sout_B (hc0 : ¬cond0_0 i) (hc1 : ¬cond0_1 i) (hc2 : cond0_2 i) :
    sout0_B_1 (F := Ideal) c i arg1 harg1 arg2 harg2 arg3 harg3 arg4 harg4 arg5 harg5 arg6 harg6 arg7 harg7 arg8 harg8 arg9 harg9 hc0 hc1 hc2 x0 x1 x2 x3 x4 xs1 xs2 = OD x0 x1 (topL xs1) := by
  have e8 := canon_od c i arg1 harg1 arg2 harg2 arg3 harg3 arg4 harg4 arg5 harg5 arg6 harg6 arg7 harg7 arg8 harg8 arg9 harg9 x0 x1 (topL xs1)
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 hc2 x0 x1 x2 x3 x4 xs1 xs2)]
  unfold kernelRun0_B
  dsimp only
  rw [pay4_eq]
  exact e8

/-- The result block of the second image's first point. -/
theorem out_C (hc0 : ¬cond0_0 i) (hc1 : cond0_1 i) (hc2 : ¬cond0_2 i) :
    out0_C_5 (F := Ideal) c i arg1 harg1 arg2 harg2 arg3 harg3 arg4 harg4 arg5 harg5 arg6 harg6 arg7 harg7 arg8 harg8 arg9 harg9 hc0 hc1 hc2 x0 x1 x2 x3 x4 xs2 = YV (EV x0 x1) (OD x0 x1 top0) xs2 x4 := by
  unfold out0_C_5
  unfold kernelRun0_C
  dsimp only
  have e7 := canon_ev c i arg1 harg1 arg2 harg2 arg3 harg3 arg4 harg4 arg5 harg5 arg6 harg6 arg7 harg7 arg8 harg8 arg9 harg9 x0 x1
  have e8 := canon_od c i arg1 harg1 arg2 harg2 arg3 harg3 arg4 harg4 arg5 harg5 arg6 harg6 arg7 harg7 arg8 harg8 arg9 harg9 x0 x1 top0
  rw [bias_eq, pay3_eq]
  refine Eq.trans ?_ (read_y c i arg1 harg1 arg2 harg2 arg3 harg3 arg4 harg4 arg5 harg5 arg6 harg6 arg7 harg7 arg8 harg8 arg9 harg9 (EV x0 x1) (OD x0 x1 top0) xs2 x4 VO0_5 VO0_5.junk)
  rw [← e8, ← e7]

/-- The odd rows' buffer after the second image's first point. -/
theorem sout_C (hc0 : ¬cond0_0 i) (hc1 : cond0_1 i) (hc2 : ¬cond0_2 i) :
    sout0_C_1 (F := Ideal) c i arg1 harg1 arg2 harg2 arg3 harg3 arg4 harg4 arg5 harg5 arg6 harg6 arg7 harg7 arg8 harg8 arg9 harg9 hc0 hc1 hc2 x0 x1 x2 x3 x4 xs2 = OD x0 x1 top0 := by
  have e8 := canon_od c i arg1 harg1 arg2 harg2 arg3 harg3 arg4 harg4 arg5 harg5 arg6 harg6 arg7 harg7 arg8 harg8 arg9 harg9 x0 x1 top0
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 hc2 x0 x1 x2 x3 x4 xs2)]
  unfold kernelRun0_C
  dsimp only
  rw [pay3_eq]
  exact e8

/-- The weights' buffer after the first point. -/
theorem wout_A (hc0 : cond0_0 i) (hc1 : cond0_1 i) (hc2 : ¬cond0_2 i) :
    sout0_A_2 (F := Ideal) c i arg1 harg1 arg2 harg2 arg3 harg3 arg4 harg4 arg5 harg5 arg6 harg6 arg7 harg7 arg8 harg8 arg9 harg9 hc0 hc1 hc2 x0 x1 x2 x3 x4 = WT x2 x3 := by
  unfold sout0_A_2
  unfold kernelRun0_A
  dsimp only
  exact read_wt c arg3 harg3 arg4 harg4 x2 x3 _ _

end Cert.KernelIdeal.Val
end
-- ==== Proof.Blocks.lean ====
/- What the blocks of a grid point read of the arguments, and the value of a dequantised activation. -/
module

public import proofs.«01_k».proof.Proof.Step
public import Idealize.ShloMosaic.Lib.Pointwise
public import Idealize.ShloMosaic.Lib.Claim
public import Idealize.ShloMosaic.Lib.Pipeline.ValueKit

@[expose] public section

set_option maxRecDepth 16384
noncomputable section
namespace Cert.KernelIdeal.Val
open Cert.KernelIdeal Cert.KernelIdeal.Gen
open Idealize.ShloMosaic Idealize.ShloMosaic.TcCoe Idealize.ShloMosaic.Tactic
open Idealize.SL.Sem

/-- A value of the activations: image, row, column, channel. -/
def XI (X : Vec Ideal S2x96x160x320 .i8) (S : Vec Ideal S2x96x160x10 .i8) (b r w ch : ℕ) : EReal :=
  if h : b < 2 ∧ r < 96 ∧ w < 160 ∧ ch < 320 then
    cv (X (ix4 ⟨b, h.1⟩ ⟨r, h.2.1⟩ ⟨w, h.2.2.1⟩ ⟨ch, h.2.2.2⟩)) (S (ix4 ⟨b, h.1⟩ ⟨r, h.2.1⟩ ⟨w, h.2.2.1⟩ ⟨ch / 32, by omega⟩)) else 0

variable (m : (ℓ : Loc nD τ sig) → Buf (Elt Ideal) ℓ) (c : Dev nD)

/-- The grid has six points. -/
theorem lt6 (t : Fin cfg0.N) : t.val < 6 := lt_of_lt_of_eq t.isLt (show cfg0.N = 6 from N_0)

/-- The block of the codes at a point. -/
theorem idx0 : ∀ t, win0_0.index t = ![t.val, 0] := by decide +kernel
/-- The block of the scales at a point. -/
theorem idx1 : ∀ t, win0_1.index t = ![t.val, 0] := by decide +kernel
/-- The weights are one block. -/
theorem idx2 : ∀ t, win0_2.index t = ![0, 0, 0, 0] := by decide +kernel
/-- The weights' scales are one block. -/
theorem idx3 : ∀ t, win0_3.index t = ![0, 0, 0, 0] := by decide +kernel
/-- The bias is one block. -/
theorem idx4 : ∀ t, win0_4.index t = ![0, 0] := by decide +kernel

/-- A point's block of codes, element by element, of the argument's image, row, column and channel. -/
theorem blk0 (t : Fin cfg0.N) (p : Fin 5120) (ch : Fin 320) (b : Fin 2) (r : Fin 96) (w : Fin 160)
    (hb : b.val = t.val / 3) (hr : r.val = 32 * (t.val % 3) + p.val / 160) (hw : w.val = p.val % 160) :
    iblk m c 0 t (ix2 p ch) = m ((c : Thread nD τ).loc main_arg0) (ix4 b r w ch) := by
  have ht := lt6 t
  have hp := p.isLt
  unfold iblk
  blk_simp
  entry_read
  pointwise
  have e0 : (((View.whole main_v0).slice (win0_0.rect t)).emb (ix2 p ch) 0).val = 5120 * t.val + p.val := by
    blk_simp [idx0 t]
    show t.val * 5120 + p.val = _
    omega
  have e1 : (((View.whole main_v0).slice (win0_0.rect t)).emb (ix2 p ch) 1).val = ch.val := by
    blk_simp [idx0 t]
  refine congrArg (m (c, Proc.devRef .tc main_arg0)) ?_
  funext a
  match a with
  | ⟨0, _⟩ => exact Fin.ext (by show (((View.whole main_v0).slice (win0_0.rect t)).emb (ix2 p ch) 0).val / 15360 = b.val; rw [e0]; omega)
  | ⟨1, _⟩ => exact Fin.ext (by show (((View.whole main_v0).slice (win0_0.rect t)).emb (ix2 p ch) 0).val / 160 % 96 = r.val; rw [e0]; omega)
  | ⟨2, _⟩ => exact Fin.ext (by show (((View.whole main_v0).slice (win0_0.rect t)).emb (ix2 p ch) 0).val % 160 = w.val; rw [e0]; omega)
  | ⟨3, _⟩ => exact Fin.ext e1

/-- A point's block of scales, element by element, of the argument's image, row, column and block of channels. -/
theorem blk1 (t : Fin cfg0.N) (p : Fin 5120) (ch : Fin 10) (b : Fin 2) (r : Fin 96) (w : Fin 160)
    (hb : b.val = t.val / 3) (hr : r.val = 32 * (t.val % 3) + p.val / 160) (hw : w.val = p.val % 160) :
    iblk m c 1 t (ix2 p ch) = m ((c : Thread nD τ).loc main_arg1) (ix4 b r w ch) := by
  have ht := lt6 t
  have hp := p.isLt
  unfold iblk
  blk_simp
  entry_read
  pointwise
  have e0 : (((View.whole main_v1).slice (win0_1.rect t)).emb (ix2 p ch) 0).val = 5120 * t.val + p.val := by
    blk_simp [idx1 t]
    show t.val * 5120 + p.val = _
    omega
  have e1 : (((View.whole main_v1).slice (win0_1.rect t)).emb (ix2 p ch) 1).val = ch.val := by
    blk_simp [idx1 t]
  refine congrArg (m (c, Proc.devRef .tc main_arg1)) ?_
  funext a
  match a with
  | ⟨0, _⟩ => exact Fin.ext (by show (((View.whole main_v1).slice (win0_1.rect t)).emb (ix2 p ch) 0).val / 15360 = b.val; rw [e0]; omega)
  | ⟨1, _⟩ => exact Fin.ext (by show (((View.whole main_v1).slice (win0_1.rect t)).emb (ix2 p ch) 0).val / 160 % 96 = r.val; rw [e0]; omega)
  | ⟨2, _⟩ => exact Fin.ext (by show (((View.whole main_v1).slice (win0_1.rect t)).emb (ix2 p ch) 0).val % 160 = w.val; rw [e0]; omega)
  | ⟨3, _⟩ => exact Fin.ext e1

/-- A point's block of weights is the argument. -/
theorem blk2 (t : Fin cfg0.N) : iblk m c 2 t = m ((c : Thread nD τ).loc main_arg2) := by
  funext y
  blk_ext [iblk, V, idx2 t]

/-- A point's block of the weights' scales is the argument. -/
theorem blk3 (t : Fin cfg0.N) : iblk m c 3 t = m ((c : Thread nD τ).loc main_arg3) := by
  funext y
  blk_ext [iblk, V, idx3 t]

/-- A point's block of the bias is the argument as a column. -/
theorem blk4 (t : Fin cfg0.N) (o : Fin 640) : iblk m c 4 t (ix2 o 0) = m ((c : Thread nD τ).loc main_arg4) (ix1 o) := by
  unfold iblk
  blk_simp
  entry_read
  pointwise
  have e0 : (((View.whole main_v2).slice (win0_4.rect t)).emb (ix2 o (0 : Fin 1)) 0).val = o.val := by
    blk_simp [idx4 t]
  refine congrArg (m (c, Proc.devRef .tc main_arg4)) ?_
  funext a
  match a with
  | ⟨0, _⟩ => exact Fin.ext e0

/-- A product of a step's blocks, as one of the whole arrays. -/
theorem P0_eq (t : Fin cfg0.N) (p ch : ℕ) (hp : p < 5120) :
    P0 (iblk m c 0 t) (iblk m c 1 t) p ch = XI (m ((c : Thread nD τ).loc main_arg0)) (m ((c : Thread nD τ).loc main_arg1)) (t.val / 3) (32 * (t.val % 3) + p / 160) (p % 160) ch := by
  have ht := lt6 t
  unfold P0 XI
  by_cases h : ch < 320
  · rw [dif_pos ⟨hp, h⟩, dif_pos ⟨by omega, by omega, by omega, h⟩,
      blk0 m c t ⟨p, hp⟩ ⟨ch, h⟩ ⟨t.val / 3, by omega⟩ ⟨32 * (t.val % 3) + p / 160, by omega⟩ ⟨p % 160, by omega⟩ rfl rfl rfl,
      blk1 m c t ⟨p, hp⟩ ⟨ch / 32, by omega⟩ ⟨t.val / 3, by omega⟩ ⟨32 * (t.val % 3) + p / 160, by omega⟩ ⟨p % 160, by omega⟩ rfl rfl rfl]
  · rw [dif_neg (fun h' => h h'.2), dif_neg (fun h' => h h'.2.2.2)]

end Cert.KernelIdeal.Val
end
-- ==== Proof.Outs.lean ====
/- What the points leave one after another: the two row buffers of the padded activations, the weights, and the result block. -/
module

public import proofs.«01_k».proof.Proof.Blocks
public import proofs.«01_k».proof.Proof.KernelValue

@[expose] public section

set_option maxRecDepth 16384
noncomputable section
namespace Cert.KernelIdeal.Val
open Cert.KernelIdeal Cert.KernelIdeal.Gen
open Idealize.ShloMosaic Idealize.ShloMosaic.TcCoe Idealize.ShloMosaic.Tactic
open Idealize.SL.Sem

/-- The activations with a zero row above and a zero column to the left. -/
def XP (X : Vec Ideal S2x96x160x320 .i8) (S : Vec Ideal S2x96x160x10 .i8) (b R C ch : ℕ) : EReal :=
  if R = 0 ∨ C = 0 then 0 else XI X S b (R - 1) (C - 1) ch

/-- A slot depends only on the three taps. -/
theorem slotW_congr (W W' : ℕ → ℕ → EReal) (h : ∀ kx ch, kx < 3 → W kx ch = W' kx ch) (s l : ℕ) : slotW W s l = slotW W' s l := by
  unfold slotW
  rw [h 1 l (by omega), h 2 l (by omega), h 0 l (by omega), h 1 _ (by omega), h 2 _ (by omega), h 0 _ (by omega)]

/-- A slot of a row's columns, the taps named. -/
theorem slotV_eq (P : ℕ → ℕ → EReal) (s j l : ℕ) :
    slotV P s j l = slotW (fun kx ch => if 2 * j + kx = 0 then 0 else P (2 * j + kx - 1) ch) s l := by
  unfold slotV slotW
  beta_reduce
  have e : (2 * j + 0 = 0) = (j = 0) := by simp
  simp only [if_neg (show ¬ 2 * j + 1 = 0 by omega), if_neg (show ¬ 2 * j + 2 = 0 by omega), e]
  rfl

variable (m : (ℓ : Loc nD τ sig) → Buf (Elt Ideal) ℓ) (c : Dev nD)

/-- The padded activations of the memory. -/
abbrev XM (b R C ch : ℕ) : EReal := XP (m ((c : Thread nD τ).loc main_arg0)) (m ((c : Thread nD τ).loc main_arg1)) b R C ch

/-- The even rows' buffer of step `n`. -/
def EVc (n : ℕ) : Vec Ideal S4x1280x256 .bf16 := fun y =>
  slotW (fun kx ch => XM m c (n / 3) (32 * (n % 3) + 2 * ((y 1).val / 80) + 1) (2 * ((y 1).val % 80) + kx) ch) (y 0).val (y 2).val

/-- The odd rows' buffer of step `n`. -/
def ODc (n : ℕ) : Vec Ideal S4x1360x256 .bf16 := fun y =>
  slotW (fun kx ch => XM m c (n / 3) (32 * (n % 3) + 2 * ((y 1).val / 80)) (2 * ((y 1).val % 80) + kx) ch) (y 0).val (y 2).val

/-- A point's even rows' buffer, of the padded activations. -/
theorem EV_eq (t : Fin cfg0.N) : EV (iblk m c 0 t) (iblk m c 1 t) = EVc m c t.val := by
  funext y
  have hy : (y 1).val < 1280 := (y 1).isLt
  unfold EV EVc
  rw [slotV_eq]
  refine slotW_congr _ _ (fun kx ch hk => ?_) _ _
  unfold XM XP
  by_cases h : 2 * ((y 1).val % 80) + kx = 0
  · rw [if_pos h, if_pos (Or.inr h)]
  · rw [if_neg h, if_neg (by omega), P0_eq m c t _ _ (by omega),
      show (320 * ((y 1).val / 80) + (2 * ((y 1).val % 80) + kx - 1)) / 160 = 2 * ((y 1).val / 80) by omega,
      show (320 * ((y 1).val / 80) + (2 * ((y 1).val % 80) + kx - 1)) % 160 = 2 * ((y 1).val % 80) + kx - 1 by omega,
      show 32 * (t.val % 3) + 2 * ((y 1).val / 80) + 1 - 1 = 32 * (t.val % 3) + 2 * ((y 1).val / 80) by omega]

/-- A point's odd rows' buffer, of the padded activations, when its first eighty columns hold the row above. -/
theorem OD_eq (t : Fin cfg0.N) (top : Vec Ideal S4x80x256 .bf16)
    (ht : ∀ (z : Fin 4) (j : Fin 80) (l : Fin 256), top (ix3 z j l) = slotW (fun kx ch => XM m c (t.val / 3) (32 * (t.val % 3)) (2 * j.val + kx) ch) z.val l.val) :
    OD (iblk m c 0 t) (iblk m c 1 t) top = ODc m c t.val := by
  funext y
  have hy : (y 1).val < 1360 := (y 1).isLt
  unfold OD ODc
  by_cases h8 : (y 1).val < 80
  · rw [dif_pos h8]
    refine (ht (y 0) ⟨(y 1).val, h8⟩ (y 2)).trans ?_
    show slotW (fun kx ch => XM m c (t.val / 3) (32 * (t.val % 3)) (2 * (y 1).val + kx) ch) (y 0).val (y 2).val = _
    rw [show (y 1).val / 80 = 0 by omega, show (y 1).val % 80 = (y 1).val by omega, Nat.mul_zero, Nat.add_zero]
  · rw [dif_neg h8, slotV_eq]
    refine slotW_congr _ _ (fun kx ch hk => ?_) _ _
    unfold XM XP
    by_cases h : 2 * ((y 1).val % 80) + kx = 0
    · rw [if_pos h, if_pos (Or.inr h)]
    · rw [if_neg h, if_neg (by omega), P0_eq m c t _ _ (by omega),
        show (320 * ((y 1).val / 80 - 1) + 160 + (2 * ((y 1).val % 80) + kx - 1)) / 160 = 2 * ((y 1).val / 80) - 1 by omega,
        show (320 * ((y 1).val / 80 - 1) + 160 + (2 * ((y 1).val % 80) + kx - 1)) % 160 = 2 * ((y 1).val % 80) + kx - 1 by omega,
        show 32 * (t.val % 3) + 2 * ((y 1).val / 80) - 1 = 32 * (t.val % 3) + (2 * ((y 1).val / 80) - 1) by omega]

/-- The slots of zero taps are zero. -/
theorem slotW_zero (s l : ℕ) : slotW (fun _ _ => 0) s l = 0 := by
  unfold slotW
  simp only [ite_self]

/-- At an image's first point the first eighty columns are the zero padding. -/
theorem OD_first (t : Fin cfg0.N) (h : t.val % 3 = 0) : OD (iblk m c 0 t) (iblk m c 1 t) top0 = ODc m c t.val := by
  refine OD_eq m c t top0 (fun z j l => ?_)
  show (0 : EReal) = _
  rw [h]
  exact (slotW_zero _ _).symm

/-- At the other points the first eighty columns are the last ones of the point before. -/
theorem OD_next (t : Fin cfg0.N) (h : ¬ t.val % 3 = 0) (O : Vec Ideal S4x1360x256 .bf16) (hO : O = ODc m c (t.val - 1)) :
    OD (iblk m c 0 t) (iblk m c 1 t) (topL O) = ODc m c t.val := by
  refine OD_eq m c t _ (fun z j l => ?_)
  have hj := j.isLt
  subst hO
  show slotW (fun kx ch => XM m c ((t.val - 1) / 3) (32 * ((t.val - 1) % 3) + 2 * ((1280 + j.val) / 80)) (2 * ((1280 + j.val) % 80) + kx) ch) z.val l.val = _
  rw [show (t.val - 1) / 3 = t.val / 3 by omega, show 32 * ((t.val - 1) % 3) + 2 * ((1280 + j.val) / 80) = 32 * (t.val % 3) by omega,
    show (1280 + j.val) % 80 = j.val by omega]

/-- What a step leaves: its output, the odd rows and the weights. -/
def OUT (n : ℕ) (b : Vec Ideal S640x1 .f32) : Vec Ideal S1280x640 .bf16 × Vec Ideal S4x1360x256 .bf16 × Vec Ideal S12x640x256 .bf16 :=
  (YV (EVc m c n) (ODc m c n) (WT (m ((c : Thread nD τ).loc main_arg2)) (m ((c : Thread nD τ).loc main_arg3))) b, ODc m c n,
    WT (m ((c : Thread nD τ).loc main_arg2)) (m ((c : Thread nD τ).loc main_arg3)))

/-- What the first point leaves. -/
theorem outs_A (t : Fin cfg0.N) (h0 : t.val % 6 = 0) : outsAt0 m c t.val t.isLt = OUT m c t.val (iblk m c 4 t) := by
  have h1 : t.val % 3 = 0 := by omega
  rw [outsAt0_A m c t h0 h1 (not_not.mpr h1)]
  unfold OUT
  rw [out_A, sout_A, wout_A, blk2, blk3, EV_eq, OD_first m c t h1]

/-- What a point that is not an image's first leaves, given what the point before left. -/
theorem outs_B (t : Fin cfg0.N) (h1 : ¬ t.val % 3 = 0) (b : Vec Ideal S640x1 .f32)
    (ih : ∀ h, outsAt0 m c (t.val - 1) h = OUT m c (t.val - 1) b) : outsAt0 m c t.val t.isLt = OUT m c t.val (iblk m c 4 t) := by
  have h0 : ¬ t.val % 6 = 0 := by omega
  rw [outsAt0_B m c t h0 h1 h1]
  rw [out_B, sout_B]
  unfold sout0_B_2
  rw [ih]
  unfold OUT
  dsimp only
  rw [EV_eq, OD_next m c t h1 _ rfl]

/-- What the second image's first point leaves, given the weights left by the point before. -/
theorem outs_C (t : Fin cfg0.N) (h0 : ¬ t.val % 6 = 0) (h1 : t.val % 3 = 0) (b : Vec Ideal S640x1 .f32)
    (ih : ∀ h, outsAt0 m c (t.val - 1) h = OUT m c (t.val - 1) b) : outsAt0 m c t.val t.isLt = OUT m c t.val (iblk m c 4 t) := by
  rw [outsAt0_C m c t h0 h1 (not_not.mpr h1)]
  rw [out_C, sout_C]
  unfold sout0_C_2
  rw [ih]
  unfold OUT
  dsimp only
  rw [EV_eq, OD_first m c t h1]

/-- Every step leaves what the whole arrays say. -/
theorem outs (n : ℕ) (hn : n < cfg0.N) : outsAt0 m c n hn = OUT m c n (iblk m c 4 ⟨n, hn⟩) := by
  induction n with
  | zero => exact outs_A m c ⟨0, hn⟩ rfl
  | succ n ih =>
    have h6 : n + 1 < 6 := lt6 ⟨n + 1, hn⟩
    by_cases h1 : (n + 1) % 3 = 0
    · exact outs_C m c ⟨n + 1, hn⟩ (by show ¬ (n + 1) % 6 = 0; omega) h1 (iblk m c 4 ⟨n, Nat.lt_of_succ_lt hn⟩) (fun h => ih h)
    · exact outs_B m c ⟨n + 1, hn⟩ h1 (iblk m c 4 ⟨n, Nat.lt_of_succ_lt hn⟩) (fun h => ih h)

end Cert.KernelIdeal.Val
end
-- ==== Proof.Taps.lean ====
/- The kernel's twelve products, of four slots for each of three rows, are the nine taps of the convolution. -/
module

public import proofs.«01_k».proof.Proof.Outs

@[expose] public section

set_option maxRecDepth 16384
noncomputable section
namespace Cert.KernelIdeal.Val
open Cert.KernelIdeal Cert.KernelIdeal.Gen
open Idealize.ShloMosaic Idealize.ShloMosaic.TcCoe Idealize.ShloMosaic.Tactic
open Idealize.SL.Sem

/-- A product of slots is the slot of products. -/
theorem slotW_mul (W V : ℕ → ℕ → EReal) (s l : ℕ) : slotW W s l * slotW V s l = slotW (fun kx ch => W kx ch * V kx ch) s l := by
  unfold slotW
  split_ifs <;> first | rfl | exact mul_zero 0

/-- The four slots of a row hold its three taps over all the channels, each once. -/
theorem slot_sum (f : ℕ → ℕ → EReal) :
    (∑ l : Fin 256, slotW f 0 l.val) + (∑ l : Fin 256, slotW f 1 l.val) + (∑ l : Fin 256, slotW f 2 l.val) + (∑ l : Fin 256, slotW f 3 l.val)
      = (∑ ch : Fin 320, f 0 ch.val) + (∑ ch : Fin 320, f 1 ch.val) + (∑ ch : Fin 320, f 2 ch.val) := by
  have e (k : ℕ) : (∑ ch : Fin 320, f k ch.val) = (∑ l ∈ Finset.range 256, f k l) + ∑ l ∈ Finset.range 64, f k (256 + l) := by
    rw [Fin.sum_univ_eq_sum_range (fun l => f k l) 320, show (320 : ℕ) = 256 + 64 from rfl, Finset.sum_range_add]
  have h0 : (∑ l : Fin 256, slotW f 0 l.val) = ∑ l ∈ Finset.range 256, f 1 l := Fin.sum_univ_eq_sum_range (fun l => f 1 l) 256
  have h1 : (∑ l : Fin 256, slotW f 1 l.val) = ∑ l ∈ Finset.range 256, f 2 l := Fin.sum_univ_eq_sum_range (fun l => f 2 l) 256
  have h2 : (∑ l : Fin 256, slotW f 2 l.val) = ∑ l ∈ Finset.range 256, f 0 l := Fin.sum_univ_eq_sum_range (fun l => f 0 l) 256
  have h3 : (∑ l : Fin 256, slotW f 3 l.val) = (∑ l ∈ Finset.range 64, f 1 (256 + l)) + (∑ l ∈ Finset.range 64, f 2 (256 + l)) + (∑ l ∈ Finset.range 64, f 0 (256 + l)) := by
    rw [Fin.sum_univ_eq_sum_range (fun l => slotW f 3 l) 256, show (256 : ℕ) = 64 + 64 + 64 + 64 from rfl, Finset.sum_range_add, Finset.sum_range_add, Finset.sum_range_add]
    have a0 : ∀ l ∈ Finset.range 64, slotW f 3 l = f 1 (256 + l) := fun l hl => by
      have := Finset.mem_range.mp hl
      unfold slotW
      rw [if_neg (by omega), if_neg (by omega), if_neg (by omega), if_pos (show l < 64 by omega)]
    have a1 : ∀ l ∈ Finset.range 64, slotW f 3 (64 + l) = f 2 (256 + l) := fun l hl => by
      have := Finset.mem_range.mp hl
      unfold slotW
      rw [if_neg (by omega), if_neg (by omega), if_neg (by omega), if_neg (show ¬ 64 + l < 64 by omega), if_pos (show 64 + l < 128 by omega)]
      exact congrArg (f 2) (by omega)
    have a2 : ∀ l ∈ Finset.range 64, slotW f 3 (64 + 64 + l) = f 0 (256 + l) := fun l hl => by
      have := Finset.mem_range.mp hl
      unfold slotW
      rw [if_neg (by omega), if_neg (by omega), if_neg (by omega), if_neg (show ¬ 64 + 64 + l < 64 by omega), if_neg (show ¬ 64 + 64 + l < 128 by omega), if_pos (show 64 + 64 + l < 192 by omega)]
      exact congrArg (f 0) (by omega)
    have a3 : ∀ l ∈ Finset.range 64, slotW f 3 (64 + 64 + 64 + l) = 0 := fun l hl => by
      unfold slotW
      rw [if_neg (by omega), if_neg (by omega), if_neg (by omega), if_neg (show ¬ 64 + 64 + 64 + l < 64 by omega), if_neg (show ¬ 64 + 64 + 64 + l < 128 by omega), if_neg (show ¬ 64 + 64 + 64 + l < 192 by omega)]
    rw [Finset.sum_congr rfl a0, Finset.sum_congr rfl a1, Finset.sum_congr rfl a2, Finset.sum_congr rfl a3, Finset.sum_const_zero, add_zero]
  rw [h0, h1, h2, h3, e 0, e 1, e 2]
  abel

variable (m : (ℓ : Loc nD τ sig) → Buf (Elt Ideal) ℓ) (c : Dev nD)

/-- One tap of the convolution: the channels' products at image `b`, output row `r`, output column `w`, output channel `o`. -/
def TAP (ky kx b r w : ℕ) (o : Fin 640) : EReal :=
  ∑ ch : Fin 320, WV (m ((c : Thread nD τ).loc main_arg2)) (m ((c : Thread nD τ).loc main_arg3)) ky kx ch.val o * XM m c b (2 * r + ky) (2 * w + kx) ch.val

/-- The three taps of a row, as the four slots' products. -/
theorem row_taps (n q : ℕ) (hq : q < 1280) (o : Fin 640) (ky : ℕ) (n0 n1 n2 n3 : Fin 12)
    (h0 : n0.val = 4 * ky) (h1 : n1.val = 4 * ky + 1) (h2 : n2.val = 4 * ky + 2) (h3 : n3.val = 4 * ky + 3) :
    dN (EVc m c n) (ODc m c n) (WT (m ((c : Thread nD τ).loc main_arg2)) (m ((c : Thread nD τ).loc main_arg3))) q o n0
      + dN (EVc m c n) (ODc m c n) (WT (m ((c : Thread nD τ).loc main_arg2)) (m ((c : Thread nD τ).loc main_arg3))) q o n1
      + dN (EVc m c n) (ODc m c n) (WT (m ((c : Thread nD τ).loc main_arg2)) (m ((c : Thread nD τ).loc main_arg3))) q o n2
      + dN (EVc m c n) (ODc m c n) (WT (m ((c : Thread nD τ).loc main_arg2)) (m ((c : Thread nD τ).loc main_arg3))) q o n3
      = TAP m c ky 0 (n / 3) (16 * (n % 3) + q / 80) (q % 80) o + TAP m c ky 1 (n / 3) (16 * (n % 3) + q / 80) (q % 80) o
        + TAP m c ky 2 (n / 3) (16 * (n % 3) + q / 80) (q % 80) o := by
  have key (i : Fin 12) (s : ℕ) (hs : s < 4) (hi : i.val = 4 * ky + s) :
      dN (EVc m c n) (ODc m c n) (WT (m ((c : Thread nD τ).loc main_arg2)) (m ((c : Thread nD τ).loc main_arg3))) q o i
        = ∑ l : Fin 256, slotW (fun kx ch => WV (m ((c : Thread nD τ).loc main_arg2)) (m ((c : Thread nD τ).loc main_arg3)) ky kx ch o
            * XM m c (n / 3) (2 * (16 * (n % 3) + q / 80) + ky) (2 * (q % 80) + kx) ch) s l.val := by
    have hky : ky < 3 := by omega
    unfold dN
    refine Finset.sum_congr rfl (fun l _ => ?_)
    rw [← slotW_mul]
    refine congrArg₂ (· * ·) ?_ ?_
    · show slotW (fun kx ch => WV _ _ (i.val / 4) kx ch o) (i.val % 4) l.val = _
      rw [show i.val / 4 = ky by omega, show i.val % 4 = s by omega]
    · unfold xsel xo xe
      by_cases k0 : ky = 0
      · rw [if_pos (by omega), dif_pos ⟨by omega, by omega⟩]
        show slotW (fun kx ch => XM m c (n / 3) (32 * (n % 3) + 2 * (q / 80)) (2 * (q % 80) + kx) ch) i.val l.val = _
        rw [show i.val = s by omega, show 32 * (n % 3) + 2 * (q / 80) = 2 * (16 * (n % 3) + q / 80) + ky by omega]
      · by_cases k1 : ky = 1
        · rw [if_neg (by omega), if_pos (by omega), dif_pos ⟨by omega, by omega⟩]
          show slotW (fun kx ch => XM m c (n / 3) (32 * (n % 3) + 2 * (q / 80) + 1) (2 * (q % 80) + kx) ch) (i.val - 4) l.val = _
          rw [show i.val - 4 = s by omega, show 32 * (n % 3) + 2 * (q / 80) + 1 = 2 * (16 * (n % 3) + q / 80) + ky by omega]
        · rw [if_neg (by omega), if_neg (by omega), dif_pos ⟨by omega, by omega⟩]
          show slotW (fun kx ch => XM m c (n / 3) (32 * (n % 3) + 2 * ((80 + q) / 80)) (2 * ((80 + q) % 80) + kx) ch) (i.val - 8) l.val = _
          rw [show i.val - 8 = s by omega, show 32 * (n % 3) + 2 * ((80 + q) / 80) = 2 * (16 * (n % 3) + q / 80) + ky by omega, show (80 + q) % 80 = q % 80 by omega]
  rw [key n0 0 (by omega) h0, key n1 1 (by omega) h1, key n2 2 (by omega) h2, key n3 3 (by omega) h3, slot_sum]
  rfl

/-- An element of the result: nine taps and the bias. -/
def CONV (b r w : ℕ) (o : Fin 640) : EReal :=
  (TAP m c 0 0 b r w o + TAP m c 0 1 b r w o + TAP m c 0 2 b r w o) + (TAP m c 1 0 b r w o + TAP m c 1 1 b r w o + TAP m c 1 2 b r w o)
    + (TAP m c 2 0 b r w o + TAP m c 2 1 b r w o + TAP m c 2 2 b r w o) + m ((c : Thread nD τ).loc main_arg4) (ix1 o)

/-- A point's result block, element by element, is the convolution. -/
theorem out_conv (t : Fin cfg0.N) (q : Fin 1280) (o : Fin 640) :
    (OUT m c t.val (iblk m c 4 t)).1 (ix2 q o) = CONV m c (t.val / 3) (16 * (t.val % 3) + q.val / 80) (q.val % 80) o := by
  have hq := q.isLt
  unfold OUT YV CONV
  rw [← row_taps m c t.val q.val hq o 0 0 1 2 3 rfl rfl rfl rfl, ← row_taps m c t.val q.val hq o 1 4 5 6 7 rfl rfl rfl rfl,
    ← row_taps m c t.val q.val hq o 2 8 9 10 11 rfl rfl rfl rfl, ← blk4 m c t o]
  show _ + iblk m c 4 t (ix2 o 0) = _
  refine congrArg (· + iblk m c 4 t (ix2 o 0)) ?_
  show dN (EVc m c t.val) (ODc m c t.val) _ q.val o 0 + _ + _ + _ + _ + _ + _ + _ + _ + _ + _ + _ = _
  simp only [add_assoc]
  rfl

/-- The kernel's result at row `r`, channel `o`. -/
theorem G5_conv (r : Fin 7680) (o : Fin 640) :
    Cert.KernelIdeal.Value.G5 m c (ix2 r o) = CONV m c (r.val / 3840) (r.val % 3840 / 80) (r.val % 80) o := by
  have hr := r.isLt
  have ho := o.isLt
  have hp : Cert.KernelIdeal.Value.pt5Of (ix2 r o) = r.val / 1280 := by
    show 1 * (r.val / 1280 - 0) + 1 * (o.val / 640 - 0) = r.val / 1280
    omega
  have hN : r.val / 1280 < cfg0.N := by rw [show cfg0.N = 6 from N_0]; omega
  unfold Cert.KernelIdeal.Value.G5
  rw [dif_pos (by rw [hp]; exact hN)]
  rw [← Cert.KernelIdeal.Value.outsAt0_sweep m c (Cert.KernelIdeal.Value.pt5Of (ix2 r o)) (by rw [hp]; exact hN)]
  have e : ∀ n (h : n < cfg0.N) (hn : n = r.val / 1280), outsAt0 m c n h = OUT m c (r.val / 1280) (iblk m c 4 ⟨r.val / 1280, hN⟩) := by
    intro n h hn
    subst hn
    exact outs m c _ h
  rw [e _ _ hp]
  have el : Cert.KernelIdeal.Value.loc5Of (ix2 r o) = ix2 ⟨r.val % 1280, by omega⟩ o := by
    funext a
    match a with
    | ⟨0, _⟩ => rfl
    | ⟨1, _⟩ => exact Fin.ext (by show o.val % 640 = o.val; omega)
  rw [el]
  refine (out_conv m c ⟨r.val / 1280, hN⟩ ⟨r.val % 1280, by omega⟩ o).trans ?_
  show CONV m c (r.val / 1280 / 3) (16 * (r.val / 1280 % 3) + r.val % 1280 / 80) (r.val % 1280 % 80) o = _
  rw [show r.val / 1280 / 3 = r.val / 3840 by omega, show 16 * (r.val / 1280 % 3) + r.val % 1280 / 80 = r.val % 3840 / 80 by omega,
    show r.val % 1280 % 80 = r.val % 80 by omega]

end Cert.KernelIdeal.Val
end
-- ==== Proof.Ref.lean ====
/- The reference's result: its dequantised weights and padded activations, its nine products, and the equation with the kernel's result. -/
module

public import proofs.«01_k».proof.Proof.Taps
public import proofs.«01_k».proof.Proof.Gen.ReferenceIdeal.Value
public import proofs.«01_k».proof.Proof.Gen.Pre_scales_normal
public import Idealize.ShloMosaic.Lib.ReduceAll

@[expose] public section

set_option maxRecDepth 16384
noncomputable section
namespace Cert.ReferenceIdeal.Val
open Cert.ReferenceIdeal Cert.ReferenceIdeal.Gen
open Idealize.ShloMosaic Idealize.ShloMosaic.TcCoe Idealize.ShloMosaic.Tactic
open Idealize.SL.Sem
open Cert.KernelIdeal.Val (XI XP WV TAP CONV cv)

/-- A scale's code moved to the exponent of a 16-bit float: sign 0, exponent the code, fraction 0; and the code less 127. -/
theorem bits_s : ∀ s : BitVec 8, ((s.setWidth 16 <<< 7).extractLsb' 15 1 == 1#1) = false ∧ ((s.setWidth 16 <<< 7).extractLsb' 7 8).toNat = s.toNat
    ∧ ((s.setWidth 16 <<< 7).extractLsb' 0 7).toNat = 0 ∧ (IntOp.subi (BitVec.setWidth 32 s) 127#32).toInt = (s.toNat : Int) - 127 := by
  decide +kernel

/-- Away from codes 0 and 255 the two readings of a scale agree: two to the power of the code less 127. -/
theorem scale_dec (s : BitVec 8) (h0 : s ≠ 0#8) (h1 : s ≠ 255#8) :
    (FloatOps.exp2 (F := Ideal) (φ := .f32) (FloatOps.sitofp (F := Ideal) FTy.f32 (IntOp.subi (BitVec.setWidth 32 s) 127#32)) : EReal) = Ideal.ofBits .bf16 (s.setWidth 16 <<< 7) := by
  obtain ⟨a, b, d, e⟩ := bits_s s
  have z0 : s.toNat ≠ 0 := fun h => h0 (BitVec.eq_of_toNat_eq h)
  have z1 : s.toNat ≠ 2 ^ 8 - 1 := fun h => h1 (BitVec.eq_of_toNat_eq h)
  show Ideal.exp2 (((IntOp.subi (BitVec.setWidth 32 s) 127#32).toInt : ℝ) : EReal) = Ideal.ieee 8 7 (s.setWidth 16 <<< 7)
  unfold Ideal.ieee
  dsimp only
  rw [a, b, d, e, if_neg z1, if_neg z0, Ideal.exp2_coe]
  refine congrArg _ ?_
  show (2 : ℝ) ^ (((s.toNat : Int) - 127 : Int) : ℝ) = _
  rw [Real.rpow_intCast]
  have : ((s.toNat : Int) - 127) = ((s.toNat : Int) - (2 ^ (8 - 1) - 1) - (7 : ℕ)) + 7 := by norm_num
  rw [this, zpow_add₀ (by norm_num)]
  norm_num
  ring

/-- A dequantised activation, in both readings. -/
theorem cv_dec (x s : BitVec 8) (h : s ≠ 0#8 ∧ s ≠ 255#8) :
    (Ideal.ofBits .fp8e4m3 x * FloatOps.exp2 (F := Ideal) (φ := .f32) (FloatOps.sitofp (F := Ideal) FTy.f32 (IntOp.subi (BitVec.setWidth 32 s) 127#32)) : EReal) = cv x s := by
  unfold cv
  rw [scale_dec s h.1 h.2]

/-- The reference's dequantised weights. -/
theorem pay2_WV (x2 : Vec Ideal S3x3x320x640 .fp8e4m3) (x3 : Vec Ideal S3x3x10x640 .i8) (h : ∀ i, x3 i ≠ 0#8 ∧ x3 i ≠ 255#8) (ky kx : Fin 3) (ch : Fin 320) (o : Fin 640) :
    (k0_pay2 (F := Ideal) x2 x3 (ix4 ky kx ch o) : EReal) = WV x2 x3 ky.val kx.val ch.val o := by
  unfold k0_pay2
  pointwise
  rw [scale_dec _ (h _).1 (h _).2]
  unfold WV
  rw [dif_pos ⟨ky.isLt, kx.isLt, ch.isLt⟩]

/-- The padded activations at a border. -/
theorem XP_out (x0 : Vec Ideal S2x96x160x320 .i8) (x1 : Vec Ideal S2x96x160x10 .i8) (b R C ch : ℕ) (h : R = 0 ∨ C = 0) : XP x0 x1 b R C ch = 0 := if_pos h

/-- The padded activations inside. -/
theorem XP_in (x0 : Vec Ideal S2x96x160x320 .i8) (x1 : Vec Ideal S2x96x160x10 .i8) (b : Fin 2) (r : Fin 96) (w : Fin 160) (ch : Fin 320) (g : Fin 10) (R C : ℕ)
    (hR : R = r.val + 1) (hC : C = w.val + 1) (hg : g.val = ch.val / 32) :
    XP x0 x1 b.val R C ch.val = cv (x0 (ix4 b r w ch)) (x1 (ix4 b r w g)) := by
  subst hR hC
  have hb : ch.val / 32 < 10 := by
    have := ch.isLt
    omega
  obtain rfl : g = ⟨ch.val / 32, hb⟩ := Fin.ext hg
  refine (if_neg (by omega)).trans ?_
  exact dif_pos (⟨b.isLt, r.isLt, w.isLt, ch.isLt⟩ : b.val < 2 ∧ r.val + 1 - 1 < 96 ∧ w.val + 1 - 1 < 160 ∧ ch.val < 320)

/-- The reference's dequantised and padded activations. -/
theorem pay3_XP (x0 : Vec Ideal S2x96x160x320 .i8) (x1 : Vec Ideal S2x96x160x10 .i8) (h : ∀ i, x1 i ≠ 0#8 ∧ x1 i ≠ 255#8)
    (b : Fin 2) (r : Fin 49) (pr : Fin 2) (w : Fin 81) (pw : Fin 2) (ch : Fin 320) (R C : ℕ) (hR : R = r.val * 2 + pr.val) (hC : C = w.val * 2 + pw.val) (h1 : R < 97) (h2 : C < 161) :
    (k0_pay3 (F := Ideal) x0 x1 (ix6 b r pr w pw ch) : EReal) = XP x0 x1 b.val R C ch.val := by
  subst hR hC
  unfold k0_pay3
  pointwise
  have hz : (((0#32 : BitVec 32).toInt : ℝ) : EReal) = 0 := by simp
  refine (dif_pos h2).trans ?_
  by_cases c0 : w.val * 2 + pw.val < 1
  · exact ((dif_pos c0).trans hz).trans (XP_out x0 x1 _ _ _ _ (Or.inr (by omega))).symm
  · refine (dif_neg c0).trans ((dif_pos h1).trans ?_)
    by_cases r0 : r.val * 2 + pr.val < 1
    · exact ((dif_pos r0).trans hz).trans (XP_out x0 x1 _ _ _ _ (Or.inl (by omega))).symm
    · refine (dif_neg r0).trans ?_
      refine (cv_dec _ _ (h (ix4 b ⟨r.val * 2 + pr.val - 1, by omega⟩ ⟨w.val * 2 + pw.val - 1, by omega⟩ ⟨ch.val / 32, by omega⟩))).trans ?_
      exact (XP_in x0 x1 b ⟨r.val * 2 + pr.val - 1, by omega⟩ ⟨w.val * 2 + pw.val - 1, by omega⟩ ch ⟨ch.val / 32, by omega⟩ _ _ (by dsimp; omega) (by dsimp; omega) rfl).symm

variable (m : (ℓ : Loc Cert.KernelIdeal.nD Cert.KernelIdeal.τ Cert.KernelIdeal.sig) → Buf (Elt Ideal) ℓ) (c : Dev Cert.KernelIdeal.nD)

/-- One tap of the reference. -/
theorem tap_eq (h1 : ∀ i, m ((c : Thread Cert.KernelIdeal.nD Cert.KernelIdeal.τ).loc Cert.KernelIdeal.main_arg1) i ≠ 0#8 ∧ m ((c : Thread Cert.KernelIdeal.nD Cert.KernelIdeal.τ).loc Cert.KernelIdeal.main_arg1) i ≠ 255#8)
    (h3 : ∀ i, m ((c : Thread Cert.KernelIdeal.nD Cert.KernelIdeal.τ).loc Cert.KernelIdeal.main_arg3) i ≠ 0#8 ∧ m ((c : Thread Cert.KernelIdeal.nD Cert.KernelIdeal.τ).loc Cert.KernelIdeal.main_arg3) i ≠ 255#8)
    (ky kx : Fin 3) (o : Fin 640) (b : Fin 2) (r : Fin 49) (pr : Fin 2) (w : Fin 81) (pw : Fin 2) (B R C : ℕ) (hB : b.val = B)
    (hR : 2 * R + ky.val = r.val * 2 + pr.val) (hC : 2 * C + kx.val = w.val * 2 + pw.val) (hr : R < 48) (hc : C < 80) :
    (∑ ch : Fin 320, (k0_pay3 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (ix6 b r pr w pw ch) : EReal)
        * k0_pay2 (F := Ideal) (m ((c : Thread Cert.KernelIdeal.nD Cert.KernelIdeal.τ).loc Cert.KernelIdeal.main_arg2)) (m ((c : Thread Cert.KernelIdeal.nD Cert.KernelIdeal.τ).loc Cert.KernelIdeal.main_arg3)) (ix4 ky kx ch o))
      = TAP m c ky.val kx.val B R C o := by
  subst hB
  unfold TAP
  refine Finset.sum_congr rfl (fun ch _ => ?_)
  rw [pay3_XP _ _ h1 b r pr w pw ch _ _ hR hC (by omega) (by omega), pay2_WV _ _ h3, mul_comm]

/-- The whole loads of the reference read its arguments. -/
theorem pay8_eq (a0 : Vec Ideal S2x96x160x320 .i8) (a1 : Vec Ideal S2x96x160x10 .i8) (a2 : Vec Ideal S3x3x320x640 .fp8e4m3) (a3 : Vec Ideal S3x3x10x640 .i8) (a4 : Vec Ideal S640 .f32) :
    k0_pay8 a0 a1 a2 a3 a4 = k0_pay2 a2 a3 := by
  unfold k0_pay8
  rw [View.ld_unit_zero (funext fun a => by fin_cases a <;> rfl) _ a2, View.ld_unit_zero (funext fun a => by fin_cases a <;> rfl) _ a3]

/-- The reference's padded activations are of its first two arguments. -/
theorem pay9_eq (a0 : Vec Ideal S2x96x160x320 .i8) (a1 : Vec Ideal S2x96x160x10 .i8) (a2 : Vec Ideal S3x3x320x640 .fp8e4m3) (a3 : Vec Ideal S3x3x10x640 .i8) (a4 : Vec Ideal S640 .f32) :
    k0_pay9 a0 a1 a2 a3 a4 = k0_pay3 a0 a1 := by
  unfold k0_pay9
  rw [View.ld_unit_zero (funext fun a => by fin_cases a <;> rfl) _ a0, View.ld_unit_zero (funext fun a => by fin_cases a <;> rfl) _ a1]

/-- Nine products and the bias, at a row and a channel. -/
theorem pays_conv (v28 : Vec Ideal S3x3x320x640 .bf16) (v38 : Vec Ideal S2x49x2x81x2x320 .bf16) (a4 : Vec Ideal S640 .f32) (r : Fin 7680) (o : Fin 640) (T : ℕ → ℕ → EReal)
    (hT : ∀ (ky kx : Fin 3) (b : Fin 2) (r' : Fin 49) (pr : Fin 2) (w : Fin 81) (pw : Fin 2), b.val = r.val / 3840 →
      2 * (r.val % 3840 / 80) + ky.val = r'.val * 2 + pr.val → 2 * (r.val % 80) + kx.val = w.val * 2 + pw.val →
      (∑ ch : Fin 320, (v38 (ix6 b r' pr w pw ch) : EReal) * v28 (ix4 ky kx ch o)) = T ky.val kx.val) :
    (k0_pay1 (F := Ideal) v28 v38 (k0_pay5 v28 v38 k0_pay4) (k0_pay6 v38) (k0_pay7 v28) a4 (ix2 r o) : EReal)
      = (T 0 0 + T 0 1 + T 0 2) + (T 1 0 + T 1 1 + T 1 2) + (T 2 0 + T 2 1 + T 2 2) + a4 (ix1 o) := by
  have hr := r.isLt
  unfold k0_pay1 k0_pay5 k0_pay4 k0_pay6 k0_pay7
  pointwise
  have i0 : r.val % 80 < 81 := by omega
  have i1 : 1 + r.val % 80 < 81 := by omega
  have j0 : r.val / 80 % 48 < 49 := by omega
  have j1 : 1 + r.val / 80 % 48 < 49 := by omega
  have bb : r.val / 3840 < 2 := by omega
  rw [hT 0 0 ⟨r.val / 3840, bb⟩ ⟨r.val / 80 % 48, j0⟩ 0 ⟨r.val % 80, i0⟩ 0 rfl (by dsimp; omega) (by dsimp; omega),
    hT 0 1 ⟨r.val / 3840, bb⟩ ⟨r.val / 80 % 48, j0⟩ 0 ⟨r.val % 80, i0⟩ 1 rfl (by dsimp; omega) (by dsimp; omega),
    hT 0 2 ⟨r.val / 3840, bb⟩ ⟨r.val / 80 % 48, j0⟩ 0 ⟨1 + r.val % 80, i1⟩ 0 rfl (by dsimp; omega) (by dsimp; omega),
    hT 1 0 ⟨r.val / 3840, bb⟩ ⟨r.val / 80 % 48, j0⟩ 1 ⟨r.val % 80, i0⟩ 0 rfl (by dsimp; omega) (by dsimp; omega),
    hT 1 1 ⟨r.val / 3840, bb⟩ ⟨r.val / 80 % 48, j0⟩ 1 ⟨r.val % 80, i0⟩ 1 rfl (by dsimp; omega) (by dsimp; omega),
    hT 1 2 ⟨r.val / 3840, bb⟩ ⟨r.val / 80 % 48, j0⟩ 1 ⟨1 + r.val % 80, i1⟩ 0 rfl (by dsimp; omega) (by dsimp; omega),
    hT 2 0 ⟨r.val / 3840, bb⟩ ⟨1 + r.val / 80 % 48, j1⟩ 0 ⟨r.val % 80, i0⟩ 0 rfl (by dsimp; omega) (by dsimp; omega),
    hT 2 1 ⟨r.val / 3840, bb⟩ ⟨1 + r.val / 80 % 48, j1⟩ 0 ⟨r.val % 80, i0⟩ 1 rfl (by dsimp; omega) (by dsimp; omega),
    hT 2 2 ⟨r.val / 3840, bb⟩ ⟨1 + r.val / 80 % 48, j1⟩ 0 ⟨1 + r.val % 80, i1⟩ 0 rfl (by dsimp; omega) (by dsimp; omega)]
  simp only [add_assoc]
  rfl

/-- The reference's result at row `r`, channel `o`. -/
theorem ref_conv (h1 : ∀ i, m ((c : Thread Cert.KernelIdeal.nD Cert.KernelIdeal.τ).loc Cert.KernelIdeal.main_arg1) i ≠ 0#8 ∧ m ((c : Thread Cert.KernelIdeal.nD Cert.KernelIdeal.τ).loc Cert.KernelIdeal.main_arg1) i ≠ 255#8)
    (h3 : ∀ i, m ((c : Thread Cert.KernelIdeal.nD Cert.KernelIdeal.τ).loc Cert.KernelIdeal.main_arg3) i ≠ 0#8 ∧ m ((c : Thread Cert.KernelIdeal.nD Cert.KernelIdeal.τ).loc Cert.KernelIdeal.main_arg3) i ≠ 255#8)
    (r : Fin 7680) (o : Fin 640) :
    (Cert.ReferenceIdeal.Value.G5 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)) (ix2 r o) : EReal) = CONV m c (r.val / 3840) (r.val % 3840 / 80) (r.val % 80) o := by
  have hr := r.isLt
  unfold Cert.ReferenceIdeal.Value.G5
  rw [pay8_eq, pay9_eq]
  exact pays_conv _ _ _ r o (fun ky kx => TAP m c ky kx (r.val / 3840) (r.val % 3840 / 80) (r.val % 80) o)
    (fun ky kx b r' pr w pw hb hr' hw => tap_eq m c h1 h3 ky kx o b r' pr w pw (r.val / 3840) (r.val % 3840 / 80) (r.val % 80) hb hr' hw (by omega) (by omega))

/-- What the precondition says of the scales: no code 0, no code 255. -/
theorem pre_normal (a0 : IVec S2x96x160x320 8) (a1 : IVec S2x96x160x10 8) (a2 : FVec Ideal S3x3x320x640 .fp8e4m3) (a3 : IVec S3x3x10x640 8) (a4 : FVec Ideal S640 .f32)
    (h : Cert.Pre_scales_normal.fn (F := Ideal) a0 a1 a2 a3 a4 = fun _ => 1#1) :
    (∀ i, a1 i ≠ 0#8 ∧ a1 i ≠ 255#8) ∧ (∀ i, a3 i ≠ 0#8 ∧ a3 i ≠ 255#8) := by
  have e := congrFun h ix0
  dsimp only [Cert.Pre_scales_normal.fn, andi] at e
  have sp : ∀ x y : BitVec 1, IntOp.andi x y = 1#1 → x = 1#1 ∧ y = 1#1 := by decide
  have self : ∀ x : BitVec 8, IntOp.cmpi .ne x x ≠ 1#1 := by decide +kernel
  have ne : ∀ x y : BitVec 8, IntOp.cmpi .ne x y = 1#1 → x ≠ y := fun x y hxy exy => by
    subst exy
    exact self x hxy
  haveI : Subsingleton Cert.Pre_scales_normal.S_.Idx := ⟨fun a b => funext fun i => i.elim0⟩
  obtain ⟨e, e4⟩ := sp _ _ e
  obtain ⟨e, e3⟩ := sp _ _ e
  obtain ⟨e1, e2⟩ := sp _ _ e
  exact ⟨fun i => ⟨ne _ _ (Host.reduce_andi_all _ _ _ _ _ e1 i), ne _ _ (Host.reduce_andi_all _ _ _ _ _ e2 i)⟩,
    fun i => ⟨ne _ _ (Host.reduce_andi_all _ _ _ _ _ e3 i), ne _ _ (Host.reduce_andi_all _ _ _ _ _ e4 i)⟩⟩

/-- Under the precondition the kernel's array is the reference's. -/
theorem same (h1 : ∀ i, m ((c : Thread Cert.KernelIdeal.nD Cert.KernelIdeal.τ).loc Cert.KernelIdeal.main_arg1) i ≠ 0#8 ∧ m ((c : Thread Cert.KernelIdeal.nD Cert.KernelIdeal.τ).loc Cert.KernelIdeal.main_arg1) i ≠ 255#8)
    (h3 : ∀ i, m ((c : Thread Cert.KernelIdeal.nD Cert.KernelIdeal.τ).loc Cert.KernelIdeal.main_arg3) i ≠ 0#8 ∧ m ((c : Thread Cert.KernelIdeal.nD Cert.KernelIdeal.τ).loc Cert.KernelIdeal.main_arg3) i ≠ 255#8) :
    Cert.ReferenceIdeal.Value.G5 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
      (m ((c : Thread Cert.KernelIdeal.nD Cert.KernelIdeal.τ).loc Cert.KernelIdeal.main_arg4)) = Cert.KernelIdeal.Value.G5 (F := Ideal) m c := by
  funext i
  obtain ⟨r, o, rfl⟩ : ∃ (r : Fin 7680) (o : Fin 640), i = ix2 r o := ⟨i 0, i 1, eq_ix2 i⟩
  exact (ref_conv m c h1 h3 r o).trans (Cert.KernelIdeal.Val.G5_conv m c r o).symm

end Cert.ReferenceIdeal.Val
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.BitsFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.KernelFrame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_normal
public import Idealize.ShloMosaic.Adequacy
public import Idealize.ShloMosaic.Init
public import Idealize.ShloMosaic.Lib.Bf16Pair
public import proofs.«01_k».proof.Proof.KernelValue
public import proofs.«01_k».proof.Proof.Gen.ReferenceIdeal.Value
public import proofs.«01_k».proof.Proof.Ref

@[expose] public section

noncomputable section

namespace Cert.Proof

open Idealize.ShloMosaic Idealize.SL.Sem

/-- Every rewrite of the idealization is an instance of the pair rule, at two shapes of words. -/
theorem preserves : Cert.preserves_Kernel_KernelIdeal :=
  ⟨IdealRules.bf16_pair.statement _ _, IdealRules.bf16_pair.statement _ _⟩

/-- Over the reals the two programs' result arrays agree, when no scale's code is 0 or 255. -/
theorem algebraic : Cert.algebraic_KernelIdeal_ReferenceIdeal_pre_scales_normal := by
  intro m g m' g' hpre hargs
  refine ⟨fun c => Cert.KernelIdeal.Value.G5 m c, Cert.KernelIdeal.Value.run m g, ?_⟩
  refine (θ_run _ _ _).mono (fun r h c => ?_) (Cert.ReferenceIdeal.Value.run m' g')
  obtain ⟨hv, h0, h1, h2, h3, h4⟩ := h c
  obtain ⟨a0, a1, a2, a3, a4⟩ := hargs c
  refine ⟨hv.trans ?_, h0, h1, h2, h3, h4⟩
  rw [a0, a1, a2, a3, a4]
  obtain ⟨n1, n3⟩ := Cert.ReferenceIdeal.Val.pre_normal _ _ _ _ _ (hpre c)
  exact Cert.ReferenceIdeal.Val.same m c n1 n3

/-- All the claims. -/
theorem claim : Cert.Claim :=
  ⟨Cert.Kernel.Gen.facts, Cert.KernelIdeal.Gen.facts, Cert.ReferenceIdeal.Gen.facts, Cert.Pre_scales_normal.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, preserves, algebraic⟩

end Cert.Proof

end
